-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_bf16_range [hPre_in_bf16_range : Cert.Pre_in_bf16_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_bf16_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_bf16_range [hPre_in_bf16_range : Cert.Pre_in_bf16_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_bf16_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_bf16_range [hKernelIdeal : Cert.KernelIdeal.Facts] [hPre_in_bf16_range : Cert.Pre_in_bf16_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_bf16_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_bf16_range [hReferenceIdeal : Cert.ReferenceIdeal.Facts] [hPre_in_bf16_range : Cert.Pre_in_bf16_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_bf16_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_in_bf16_range [hKernelIdeal : Cert.KernelIdeal.Facts] [hReferenceIdeal : Cert.ReferenceIdeal.Facts] [hPre_in_bf16_range : Cert.Pre_in_bf16_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_bf16_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_bf16_range : Cert.Pre_in_bf16_range.Facts),
    quiescent_Kernel (hKernel := hKernel)
    ∧ quiescent_KernelIdeal (hKernelIdeal := hKernelIdeal)
    ∧ quiescent_KernelIdeal_pre_in_bf16_range (hKernelIdeal := hKernelIdeal) (hPre_in_bf16_range := hPre_in_bf16_range)
    ∧ quiescent_ReferenceIdeal (hReferenceIdeal := hReferenceIdeal)
    ∧ quiescent_ReferenceIdeal_pre_in_bf16_range (hReferenceIdeal := hReferenceIdeal) (hPre_in_bf16_range := hPre_in_bf16_range)
    ∧ preserves_Kernel_KernelIdeal
    ∧ algebraic_KernelIdeal_ReferenceIdeal_pre_in_bf16_range (hKernelIdeal := hKernelIdeal) (hReferenceIdeal := hReferenceIdeal) (hPre_in_bf16_range := hPre_in_bf16_range)
-- ==== Pre_in_bf16_range.lean ====
abbrev S4x1536x2048 : Shape := ⟨3, ![4, 1536, 2048]⟩
abbrev S2048x4608 : Shape := ⟨2, ![2048, 4608]⟩
abbrev S16x36 : Shape := ⟨2, ![16, 36]⟩
abbrev S_ : Shape := ⟨0, ![]⟩

class Facts : Prop where
  bcast_S_S4x1536x2048 : S_.BroadcastsInDim S4x1536x2048 (![] : Fin 0 → Fin S4x1536x2048.rank)

variable [Facts]

def fn {F : FTy → Type} [FloatOps F] (main_arg0 : FVec F S4x1536x2048 .bf16) (main_arg1 : FVec F S2048x4608 .fp8e4m3) (main_arg2 : FVec F S16x36 .f32) : IVec S4x1536x2048 1 :=
  let main_v0 : FVec F S4x1536x2048 .bf16 := Host.absf main_arg0
  let main_cst : FVec F S_ .bf16 := constant S_ .bf16 0x7F7F#16
  let main_v1 : FVec F S4x1536x2048 .bf16 := broadcastInDim S4x1536x2048 ![] bcast_S_S4x1536x2048 main_cst
  let main_v2 : IVec S4x1536x2048 1 := cmpf .ole main_v0 main_v1
  let main_v3 : FVec F S4x1536x2048 .bf16 := Host.absf main_arg0
  let main_cst_0 : FVec F S_ .bf16 := constant S_ .bf16 0x7F80#16
  let main_v4 : FVec F S4x1536x2048 .bf16 := broadcastInDim S4x1536x2048 ![] bcast_S_S4x1536x2048 main_cst_0
  let main_v5 : IVec S4x1536x2048 1 := cmpf .oeq main_v3 main_v4
  let main_v6 : IVec S4x1536x2048 1 := ori main_v2 main_v5
  main_v6
-- ==== Kernel.lean ====
abbrev S4x1536x2048 : Shape := ⟨3, ![4, 1536, 2048]⟩
abbrev S2048x4608 : Shape := ⟨2, ![2048, 4608]⟩
abbrev S16x36 : Shape := ⟨2, ![16, 36]⟩
abbrev S6144x2048 : Shape := ⟨2, ![6144, 2048]⟩
abbrev S6144x4608 : Shape := ⟨2, ![6144, 4608]⟩
abbrev S6144x16 : Shape := ⟨2, ![6144, 16]⟩
abbrev S512x2048 : Shape := ⟨2, ![512, 2048]⟩
abbrev S512x4608 : Shape := ⟨2, ![512, 4608]⟩
abbrev S512x16 : Shape := ⟨2, ![512, 16]⟩
abbrev S1x1 : Shape := ⟨2, ![1, 1]⟩
abbrev S128x128 : Shape := ⟨2, ![128, 128]⟩
abbrev S512x128 : Shape := ⟨2, ![512, 128]⟩
abbrev S512 : Shape := ⟨1, ![512]⟩
abbrev S512x1 : Shape := ⟨2, ![512, 1]⟩
abbrev S512x256 : Shape := ⟨2, ![512, 256]⟩
abbrev S2048x512 : Shape := ⟨2, ![2048, 512]⟩
abbrev S512x512 : Shape := ⟨2, ![512, 512]⟩

abbrev nBuf : Space → Nat
  | .hbm => 7
  | .vmem => 11
  | .smem => 1
  | _ => 0

abbrev bufTy : (tb : Table) → Fin (tcTables nBuf tb) → BufTy
  | .hbm, ⟨0, _⟩ => ⟨S4x1536x2048, .bf16⟩
  | .hbm, ⟨1, _⟩ => ⟨S2048x4608, .fp8e4m3⟩
  | .hbm, ⟨2, _⟩ => ⟨S16x36, .f32⟩
  | .hbm, ⟨3, _⟩ => ⟨S6144x2048, .bf16⟩
  | .hbm, ⟨4, _⟩ => ⟨S6144x4608, .bf16⟩
  | .hbm, ⟨5, _⟩ => ⟨S6144x2048, .fp8e4m3⟩
  | .hbm, ⟨6, _⟩ => ⟨S6144x16, .f32⟩
  | .local _ .vmem, ⟨0, _⟩ => ⟨S512x2048, .bf16⟩
  | .local _ .vmem, ⟨1, _⟩ => ⟨S512x2048, .bf16⟩
  | .local _ .vmem, ⟨2, _⟩ => ⟨S2048x4608, .fp8e4m3⟩
  | .local _ .vmem, ⟨3, _⟩ => ⟨S512x4608, .bf16⟩
  | .local _ .vmem, ⟨4, _⟩ => ⟨S512x4608, .bf16⟩
  | .local _ .vmem, ⟨5, _⟩ => ⟨S512x2048, .fp8e4m3⟩
  | .local _ .vmem, ⟨6, _⟩ => ⟨S512x2048, .fp8e4m3⟩
  | .local _ .vmem, ⟨7, _⟩ => ⟨S512x16, .f32⟩
  | .local _ .vmem, ⟨8, _⟩ => ⟨S512x16, .f32⟩
  | .local _ .vmem, ⟨9, _⟩ => ⟨S2048x4608, .bf16⟩
  | .local _ .vmem, ⟨10, _⟩ => ⟨S512x2048, .bf16⟩
  | .local _ .smem, ⟨0, _⟩ => ⟨S16x36, .f32⟩
  | _, _ => ⟨S4x1536x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![12], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_344 : BitVec 32 := 0#32
  let c36_i32 : BitVec 32 := 36#32
  let v834 : BitVec 32 := Scalar.addi c0_i32_344 c36_i32
  let c1_i32 : BitVec 32 := 1#32
  ⟨c0_i32_344, v834, c1_i32⟩
def k0_mult1 (k0_t1 : Fin k0_t1_loop.trips) : BitVec 32 :=
  let c0_i32_344 : BitVec 32 := 0#32
  let c1_i32 : BitVec 32 := 1#32
  let arg9 : BitVec 32 := Scf.iv c0_i32_344 c1_i32 k0_t1
  let c128_i32 : BitVec 32 := 128#32
  let v835 : BitVec 32 := Scalar.muli arg9 c128_i32
  v835
def k0_off1 (k0_t1 : Fin k0_t1_loop.trips) : Fin 2 → Nat :=
  let c0_346 : Index := 0#32
  let c0_i32_344 : BitVec 32 := 0#32
  let c1_i32 : BitVec 32 := 1#32
  let arg9 : BitVec 32 := Scf.iv c0_i32_344 c1_i32 k0_t1
  let v837 : Index := Scalar.indexCast arg9
  ![0, v837.toNat]
def k0_off2 (k0_t1 : Fin k0_t1_loop.trips) : Fin 2 → Nat :=
  let c0_347 : Index := 0#32
  let c0_i32_344 : BitVec 32 := 0#32
  let c1_i32 : BitVec 32 := 1#32
  let arg9 : BitVec 32 := Scf.iv c0_i32_344 c1_i32 k0_t1
  let c128_i32 : BitVec 32 := 128#32
  let v835 : BitVec 32 := Scalar.muli arg9 c128_i32
  let v836 : BitVec 32 := v835
  let v841 : Index := Scalar.indexCast v836
  ![0, v841.toNat]
def k0_off3 (k0_t1 : Fin k0_t1_loop.trips) : Fin 2 → Nat :=
  let c1 : Index := 1#32
  let c0_i32_344 : BitVec 32 := 0#32
  let c1_i32 : BitVec 32 := 1#32
  let arg9 : BitVec 32 := Scf.iv c0_i32_344 c1_i32 k0_t1
  let v849 : Index := Scalar.indexCast arg9
  ![1, v849.toNat]
def k0_off4 (k0_t1 : Fin k0_t1_loop.trips) : Fin 2 → Nat :=
  let c128_349 : Index := 128#32
  let c0_i32_344 : BitVec 32 := 0#32
  let c1_i32 : BitVec 32 := 1#32
  let arg9 : BitVec 32 := Scf.iv c0_i32_344 c1_i32 k0_t1
  let c128_i32 : BitVec 32 := 128#32
  let v835 : BitVec 32 := Scalar.muli arg9 c128_i32
  let v836 : BitVec 32 := v835
  let v853 : Index := Scalar.indexCast v836
  ![128, v853.toNat]
def k0_off5 (k0_t1 : Fin k0_t1_loop.trips) : Fin 2 → Nat :=
  let c2 : Index := 2#32
  let c0_i32_344 : BitVec 32 := 0#32
  let c1_i32 : BitVec 32 := 1#32
  let arg9 : BitVec 32 := Scf.iv c0_i32_344 c1_i32 k0_t1
  let v861 : Index := Scalar.indexCast arg9
  ![2, v861.toNat]
def k0_off6 (k0_t1 : Fin k0_t1_loop.trips) : Fin 2 → Nat :=
  let c256_351 : Index := 256#32
  let c0_i32_344 : BitVec 32 := 0#32
  let c1_i32 : BitVec 32 := 1#32
  let arg9 : BitVec 32 := Scf.iv c0_i32_344 c1_i32 k0_t1
  let c128_i32 : BitVec 32 := 128#32
  let v835 : BitVec 32 := Scalar.muli arg9 c128_i32
  let v836 : BitVec 32 := v835
  let v865 : Index := Scalar.indexCast v836
  ![256, v865.toNat]
def k0_off7 (k0_t1 : Fin k0_t1_loop.trips) : Fin 2 → Nat :=
  let c3 : Index := 3#32
  let c0_i32_344 : BitVec 32 := 0#32
  let c1_i32 : BitVec 32 := 1#32
  let arg9 : BitVec 32 := Scf.iv c0_i32_344 c1_i32 k0_t1
  let v873 : Index := Scalar.indexCast arg9
  ![3, v873.toNat]
def k0_off8 (k0_t1 : Fin k0_t1_loop.trips) : Fin 2 → Nat :=
  let c384_353 : Index := 384#32
  let c0_i32_344 : BitVec 32 := 0#32
  let c1_i32 : BitVec 32 := 1#32
  let arg9 : BitVec 32 := Scf.iv c0_i32_344 c1_i32 k0_t1
  let c128_i32 : BitVec 32 := 128#32
  let v835 : BitVec 32 := Scalar.muli arg9 c128_i32
  let v836 : BitVec 32 := v835
  let v877 : Index := Scalar.indexCast v836
  ![384, v877.toNat]
def k0_off9 (k0_t1 : Fin k0_t1_loop.trips) : Fin 2 → Nat :=
  let c4 : Index := 4#32
  let c0_i32_344 : BitVec 32 := 0#32
  let c1_i32 : BitVec 32 := 1#32
  let arg9 : BitVec 32 := Scf.iv c0_i32_344 c1_i32 k0_t1
  let v885 : Index := Scalar.indexCast arg9
  ![4, v885.toNat]
def k0_off10 (k0_t1 : Fin k0_t1_loop.trips) : Fin 2 → Nat :=
  let c512_355 : Index := 512#32
  let c0_i32_344 : BitVec 32 := 0#32
  let c1_i32 : BitVec 32 := 1#32
  let arg9 : BitVec 32 := Scf.iv c0_i32_344 c1_i32 k0_t1
  let c128_i32 : BitVec 32 := 128#32
  let v835 : BitVec 32 := Scalar.muli arg9 c128_i32
  let v836 : BitVec 32 := v835
  let v889 : Index := Scalar.indexCast v836
  ![512, v889.toNat]
def k0_off11 (k0_t1 : Fin k0_t1_loop.trips) : Fin 2 → Nat :=
  let c5 : Index := 5#32
  let c0_i32_344 : BitVec 32 := 0#32
  let c1_i32 : BitVec 32 := 1#32
  let arg9 : BitVec 32 := Scf.iv c0_i32_344 c1_i32 k0_t1
  let v897 : Index := Scalar.indexCast arg9
  ![5, v897.toNat]
def k0_off12 (k0_t1 : Fin k0_t1_loop.trips) : Fin 2 → Nat :=
  let c640_357 : Index := 640#32
  let c0_i32_344 : BitVec 32 := 0#32
  let c1_i32 : BitVec 32 := 1#32
  let arg9 : BitVec 32 := Scf.iv c0_i32_344 c1_i32 k0_t1
  let c128_i32 : BitVec 32 := 128#32
  let v835 : BitVec 32 := Scalar.muli arg9 c128_i32
  let v836 : BitVec 32 := v835
  let v901 : Index := Scalar.indexCast v836
  ![640, v901.toNat]
def k0_off13 (k0_t1 : Fin k0_t1_loop.trips) : Fin 2 → Nat :=
  let c6 : Index := 6#32
  let c0_i32_344 : BitVec 32 := 0#32
  let c1_i32 : BitVec 32 := 1#32
  let arg9 : BitVec 32 := Scf.iv c0_i32_344 c1_i32 k0_t1
  let v909 : Index := Scalar.indexCast arg9
  ![6, v909.toNat]
def k0_off14 (k0_t1 : Fin k0_t1_loop.trips) : Fin 2 → Nat :=
  let c768_359 : Index := 768#32
  let c0_i32_344 : BitVec 32 := 0#32
  let c1_i32 : BitVec 32 := 1#32
  let arg9 : BitVec 32 := Scf.iv c0_i32_344 c1_i32 k0_t1
  let c128_i32 : BitVec 32 := 128#32
  let v835 : BitVec 32 := Scalar.muli arg9 c128_i32
  let v836 : BitVec 32 := v835
  let v913 : Index := Scalar.indexCast v836
  ![768, v913.toNat]
def k0_off15 (k0_t1 : Fin k0_t1_loop.trips) : Fin 2 → Nat :=
  let c7 : Index := 7#32
  let c0_i32_344 : BitVec 32 := 0#32
  let c1_i32 : BitVec 32 := 1#32
  let arg9 : BitVec 32 := Scf.iv c0_i32_344 c1_i32 k0_t1
  let v921 : Index := Scalar.indexCast arg9
  ![7, v921.toNat]
def k0_off16 (k0_t1 : Fin k0_t1_loop.trips) : Fin 2 → Nat :=
  let c896_361 : Index := 896#32
  let c0_i32_344 : BitVec 32 := 0#32
  let c1_i32 : BitVec 32 := 1#32
  let arg9 : BitVec 32 := Scf.iv c0_i32_344 c1_i32 k0_t1
  let c128_i32 : BitVec 32 := 128#32
  let v835 : BitVec 32 := Scalar.muli arg9 c128_i32
  let v836 : BitVec 32 := v835
  let v925 : Index := Scalar.indexCast v836
  ![896, v925.toNat]
def k0_off17 (k0_t1 : Fin k0_t1_loop.trips) : Fin 2 → Nat :=
  let c8 : Index := 8#32
  let c0_i32_344 : BitVec 32 := 0#32
  let c1_i32 : BitVec 32 := 1#32
  let arg9 : BitVec 32 := Scf.iv c0_i32_344 c1_i32 k0_t1
  let v933 : Index := Scalar.indexCast arg9
  ![8, v933.toNat]
def k0_off18 (k0_t1 : Fin k0_t1_loop.trips) : Fin 2 → Nat :=
  let c1024_363 : Index := 1024#32
  let c0_i32_344 : BitVec 32 := 0#32
  let c1_i32 : BitVec 32 := 1#32
  let arg9 : BitVec 32 := Scf.iv c0_i32_344 c1_i32 k0_t1
  let c128_i32 : BitVec 32 := 128#32
  let v835 : BitVec 32 := Scalar.muli arg9 c128_i32
  let v836 : BitVec 32 := v835
  let v937 : Index := Scalar.indexCast v836
  ![1024, v937.toNat]
def k0_off19 (k0_t1 : Fin k0_t1_loop.trips) : Fin 2 → Nat :=
  let c9 : Index := 9#32
  let c0_i32_344 : BitVec 32 := 0#32
  let c1_i32 : BitVec 32 := 1#32
  let arg9 : BitVec 32 := Scf.iv c0_i32_344 c1_i32 k0_t1
  let v945 : Index := Scalar.indexCast arg9
  ![9, v945.toNat]
def k0_off20 (k0_t1 : Fin k0_t1_loop.trips) : Fin 2 → Nat :=
  let c1152_365 : Index := 1152#32
  let c0_i32_344 : BitVec 32 := 0#32
  let c1_i32 : BitVec 32 := 1#32
  let arg9 : BitVec 32 := Scf.iv c0_i32_344 c1_i32 k0_t1
  let c128_i32 : BitVec 32 := 128#32
  let v835 : BitVec 32 := Scalar.muli arg9 c128_i32
  let v836 : BitVec 32 := v835
  let v949 : Index := Scalar.indexCast v836
  ![1152, v949.toNat]
def k0_off21 (k0_t1 : Fin k0_t1_loop.trips) : Fin 2 → Nat :=
  let c10 : Index := 10#32
  let c0_i32_344 : BitVec 32 := 0#32
  let c1_i32 : BitVec 32 := 1#32
  let arg9 : BitVec 32 := Scf.iv c0_i32_344 c1_i32 k0_t1
  let v957 : Index := Scalar.indexCast arg9
  ![10, v957.toNat]
def k0_off22 (k0_t1 : Fin k0_t1_loop.trips) : Fin 2 → Nat :=
  let c1280_367 : Index := 1280#32
  let c0_i32_344 : BitVec 32 := 0#32
  let c1_i32 : BitVec 32 := 1#32
  let arg9 : BitVec 32 := Scf.iv c0_i32_344 c1_i32 k0_t1
  let c128_i32 : BitVec 32 := 128#32
  let v835 : BitVec 32 := Scalar.muli arg9 c128_i32
  let v836 : BitVec 32 := v835
  let v961 : Index := Scalar.indexCast v836
  ![1280, v961.toNat]
def k0_off23 (k0_t1 : Fin k0_t1_loop.trips) : Fin 2 → Nat :=
  let c11 : Index := 11#32
  let c0_i32_344 : BitVec 32 := 0#32
  let c1_i32 : BitVec 32 := 1#32
  let arg9 : BitVec 32 := Scf.iv c0_i32_344 c1_i32 k0_t1
  let v969 : Index := Scalar.indexCast arg9
  ![11, v969.toNat]
def k0_off24 (k0_t1 : Fin k0_t1_loop.trips) : Fin 2 → Nat :=
  let c1408_369 : Index := 1408#32
  let c0_i32_344 : BitVec 32 := 0#32
  let c1_i32 : BitVec 32 := 1#32
  let arg9 : BitVec 32 := Scf.iv c0_i32_344 c1_i32 k0_t1
  let c128_i32 : BitVec 32 := 128#32
  let v835 : BitVec 32 := Scalar.muli arg9 c128_i32
  let v836 : BitVec 32 := v835
  let v973 : Index := Scalar.indexCast v836
  ![1408, v973.toNat]
def k0_off25 (k0_t1 : Fin k0_t1_loop.trips) : Fin 2 → Nat :=
  let c12 : Index := 12#32
  let c0_i32_344 : BitVec 32 := 0#32
  let c1_i32 : BitVec 32 := 1#32
  let arg9 : BitVec 32 := Scf.iv c0_i32_344 c1_i32 k0_t1
  let v981 : Index := Scalar.indexCast arg9
  ![12, v981.toNat]
def k0_off26 (k0_t1 : Fin k0_t1_loop.trips) : Fin 2 → Nat :=
  let c1536_371 : Index := 1536#32
  let c0_i32_344 : BitVec 32 := 0#32
  let c1_i32 : BitVec 32 := 1#32
  let arg9 : BitVec 32 := Scf.iv c0_i32_344 c1_i32 k0_t1
  let c128_i32 : BitVec 32 := 128#32
  let v835 : BitVec 32 := Scalar.muli arg9 c128_i32
  let v836 : BitVec 32 := v835
  let v985 : Index := Scalar.indexCast v836
  ![1536, v985.toNat]
def k0_off27 (k0_t1 : Fin k0_t1_loop.trips) : Fin 2 → Nat :=
  let c13 : Index := 13#32
  let c0_i32_344 : BitVec 32 := 0#32
  let c1_i32 : BitVec 32 := 1#32
  let arg9 : BitVec 32 := Scf.iv c0_i32_344 c1_i32 k0_t1
  let v993 : Index := Scalar.indexCast arg9
  ![13, v993.toNat]
def k0_off28 (k0_t1 : Fin k0_t1_loop.trips) : Fin 2 → Nat :=
  let c1664_373 : Index := 1664#32
  let c0_i32_344 : BitVec 32 := 0#32
  let c1_i32 : BitVec 32 := 1#32
  let arg9 : BitVec 32 := Scf.iv c0_i32_344 c1_i32 k0_t1
  let c128_i32 : BitVec 32 := 128#32
  let v835 : BitVec 32 := Scalar.muli arg9 c128_i32
  let v836 : BitVec 32 := v835
  let v997 : Index := Scalar.indexCast v836
  ![1664, v997.toNat]
def k0_off29 (k0_t1 : Fin k0_t1_loop.trips) : Fin 2 → Nat :=
  let c14 : Index := 14#32
  let c0_i32_344 : BitVec 32 := 0#32
  let c1_i32 : BitVec 32 := 1#32
  let arg9 : BitVec 32 := Scf.iv c0_i32_344 c1_i32 k0_t1
  let v1005 : Index := Scalar.indexCast arg9
  ![14, v1005.toNat]
def k0_off30 (k0_t1 : Fin k0_t1_loop.trips) : Fin 2 → Nat :=
  let c1792_375 : Index := 1792#32
  let c0_i32_344 : BitVec 32 := 0#32
  let c1_i32 : BitVec 32 := 1#32
  let arg9 : BitVec 32 := Scf.iv c0_i32_344 c1_i32 k0_t1
  let c128_i32 : BitVec 32 := 128#32
  let v835 : BitVec 32 := Scalar.muli arg9 c128_i32
  let v836 : BitVec 32 := v835
  let v1009 : Index := Scalar.indexCast v836
  ![1792, v1009.toNat]
def k0_off31 (k0_t1 : Fin k0_t1_loop.trips) : Fin 2 → Nat :=
  let c15 : Index := 15#32
  let c0_i32_344 : BitVec 32 := 0#32
  let c1_i32 : BitVec 32 := 1#32
  let arg9 : BitVec 32 := Scf.iv c0_i32_344 c1_i32 k0_t1
  let v1017 : Index := Scalar.indexCast arg9
  ![15, v1017.toNat]
def k0_off32 (k0_t1 : Fin k0_t1_loop.trips) : Fin 2 → Nat :=
  let c1920_377 : Index := 1920#32
  let c0_i32_344 : BitVec 32 := 0#32
  let c1_i32 : BitVec 32 := 1#32
  let arg9 : BitVec 32 := Scf.iv c0_i32_344 c1_i32 k0_t1
  let c128_i32 : BitVec 32 := 128#32
  let v835 : BitVec 32 := Scalar.muli arg9 c128_i32
  let v836 : BitVec 32 := v835
  let v1021 : Index := Scalar.indexCast v836
  ![1920, v1021.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S16x36 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x4608 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4608 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S4x1536x2048 : Shape := ⟨3, ![4, 1536, 2048]⟩
abbrev S2048x4608 : Shape := ⟨2, ![2048, 4608]⟩
abbrev S16x36 : Shape := ⟨2, ![16, 36]⟩
abbrev S6144x2048 : Shape := ⟨2, ![6144, 2048]⟩
abbrev S6144x4608 : Shape := ⟨2, ![6144, 4608]⟩
abbrev S6144x16 : Shape := ⟨2, ![6144, 16]⟩
abbrev S6144x16x128 : Shape := ⟨3, ![6144, 16, 128]⟩
abbrev S6144x16x1 : Shape := ⟨3, ![6144, 16, 1]⟩
abbrev S6144x16x254 : Shape := ⟨3, ![6144, 16, 254]⟩
abbrev S16x128x36x128 : Shape := ⟨4, ![16, 128, 36, 128]⟩
abbrev S16x1x36x1 : Shape := ⟨4, ![16, 1, 36, 1]⟩

abbrev nBuf : Space → Nat
  | .hbm => 7
  | .vmem => 6
  | .smem => 0
  | _ => 0

abbrev bufTy : (tb : Table) → Fin (tcTables nBuf tb) → BufTy
  | .hbm, ⟨0, _⟩ => ⟨S4x1536x2048, .bf16⟩
  | .hbm, ⟨1, _⟩ => ⟨S2048x4608, .fp8e4m3⟩
  | .hbm, ⟨2, _⟩ => ⟨S16x36, .f32⟩
  | .hbm, ⟨3, _⟩ => ⟨S6144x2048, .bf16⟩
  | .hbm, ⟨4, _⟩ => ⟨S6144x4608, .bf16⟩
  | .hbm, ⟨5, _⟩ => ⟨S6144x2048, .fp8e4m3⟩
  | .hbm, ⟨6, _⟩ => ⟨S6144x16, .f32⟩
  | .local _ .vmem, ⟨0, _⟩ => ⟨S6144x2048, .bf16⟩
  | .local _ .vmem, ⟨1, _⟩ => ⟨S2048x4608, .fp8e4m3⟩
  | .local _ .vmem, ⟨2, _⟩ => ⟨S16x36, .f32⟩
  | .local _ .vmem, ⟨3, _⟩ => ⟨S6144x4608, .bf16⟩
  | .local _ .vmem, ⟨4, _⟩ => ⟨S6144x2048, .fp8e4m3⟩
  | .local _ .vmem, ⟨5, _⟩ => ⟨S6144x16, .f32⟩
  | _, _ => ⟨S4x1536x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S6144x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x4608 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x36 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6144x4608 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6144x2048 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6144x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Quant.lean ====
/-
  Hand-written, untrusted. The quantiser on one group of 128 values, over the extended reals: the kernel's way of finding the
  group's power of two (through the exponent word of the group's largest magnitude over 448).
-/
module

public import proofs.«01_k».proof.Defs
public import Idealize.ShloMosaic.PureOps.Ideal.Laws
public import Idealize.ShloMosaic.Lib.ValueIdx

@[expose] public section

noncomputable section

namespace Cert.Quant

open Idealize.ShloMosaic

/-- The largest magnitude of a group. -/
def amax (f : Fin 128 → EReal) : EReal :=
  (Finset.univ : Finset (Fin 128)).fold max (Ideal.ofBits .f32 0xFF800000#32) fun l => max (f l) (-(f l))

/-- The f32 word `k · 2^23`: exponent field `k`, significand field zero. -/
def stepWord (k : Fin 256) : BitVec 32 := BitVec.ofNat 32 k.val * 8388608#32

/-- The greatest word `k · 2^23` whose value is at most `t` (zero if there is none). -/
def expWord (t : EReal) : BitVec 32 :=
  (Finset.univ : Finset (Fin 256)).fold IKind.maxsi.op 2147483648#32 fun k =>
    if Ideal.ofBits .f32 (stepWord k) ≤ t then stepWord k else 0#32

/-- The word of the scale, from an exponent word: the next power of two, and 1 at both ends of the exponent's range. -/
def wordOf (e : BitVec 32) : BitVec 32 :=
  if e &&& 2139095040#32 = 0#32 ∨ e &&& 2139095040#32 = 2139095040#32 then 1065353216#32
  else (e &&& 2139095040#32) + 8388608#32

/-- The largest magnitude over 448, as the kernel and the reference take it: a product with a constant. -/
def ratio (f : Fin 128 → EReal) : EReal := amax f * Ideal.ofBits .f32 0x3B124925#32

/-- The kernel's word of a group's scale. -/
def scaleWord (f : Fin 128 → EReal) : BitVec 32 := wordOf (expWord (ratio f))

/-- The kernel's scale of a group. -/
def scale (f : Fin 128 → EReal) : EReal := Ideal.ofBits .f32 (scaleWord f)

/-- The kernel's reciprocal of a group's scale. -/
def inv (f : Fin 128 → EReal) : EReal := Ideal.ofBits .f32 (2130706432#32 - scaleWord f)

/-- Clipping to the range of the codes. -/
def clip (x : EReal) : EReal :=
  min (Ideal.ofBits .f32 0x43E00000#32) (max (Ideal.ofBits .f32 0xC3E00000#32) x)

/-- The code of entry `l` of a group. -/
def code (f : Fin 128 → EReal) (l : Fin 128) : EReal := clip (f l * inv f)

end Cert.Quant

end
-- ==== Proof.Group.lean ====
/-
  Hand-written, untrusted. What the kernel computes from ONE group of 128 columns of its block of `x`, read at an index: the
  group's scales, its codes and its scaled codes.
-/
module

public import proofs.«01_k».proof.Proof.Quant
public import proofs.«01_k».proof.Proof.Gen.KernelIdeal.Skeleton
public import Idealize.ShloMosaic.Lib.Pipeline.Value
public import Idealize.ShloMosaic.Lib.ValueLayoutCasts

@[expose] public section

noncomputable section

namespace Cert.KernelIdeal.Block

open Idealize.ShloMosaic Idealize.ShloMosaic.ValueIdx Cert.KernelIdeal Cert.KernelIdeal.Gen

/-- Row `r` of a group. -/
def row (v : Vec Ideal S512x128 .bf16) (r : Fin 512) : Fin 128 → EReal := fun l => v (ix2 r l)

/-- The kernel's first steps on a group: each row's largest magnitude over 448. -/
def ratioV (v : Vec Ideal S512x128 .bf16) : FVec Ideal S512x1 .f32 :=
  mulf (shapeCast S512x1 (multiReduction .maximumf [1] S512 (extf .f32 (absf (k0_pay21 v)) bitsLt_bf16_f32 : FVec Ideal S512x128 .f32)
    0xFF800000#32 reduces_S512x128_S512 (.inl rfl) rfl) shapeCasts_S512_S512x1 : FVec Ideal S512x1 .f32)
    (broadcast S512x1 (Scalar.ofBits .f32 0x3B124925#32))

theorem ratioV_apply (v : Vec Ideal S512x128 .bf16) (r : Fin 512) (z : Fin 1) :
    ratioV v (ix2 r z) = Quant.ratio (row v r) := by
  have h : (multiReduction .maximumf [1] S512 (extf .f32 (absf (k0_pay21 v)) bitsLt_bf16_f32 : FVec Ideal S512x128 .f32)
      0xFF800000#32 reduces_S512x128_S512 (.inl rfl) rfl : FVec Ideal S512 .f32) (ix1 r) = Quant.amax (row v r) := by
    refine (Ideal.multiReduction_maximumf_single _ _ _ _ _ _).trans ?_
    unfold Quant.amax
    refine Finset.fold_congr (s := (Finset.univ : Finset (Fin 128))) fun l _ => ?_
    have e : reduces_S512x128_S512.lift (ix1 r) l = ix2 r l := by
      funext a; match a with | ⟨0, _⟩ => rfl | ⟨1, _⟩ => rfl
    show max (k0_pay21 v _) (-(k0_pay21 v _)) = max (v (ix2 r l)) (-(v (ix2 r l)))
    rw [e]; unfold k0_pay21; rw [shapeCast_self]
  show shapeCast S512x1 _ _ _ * _ = _
  rw [shapeCast_a_a1_apply, h]
  rfl

/-- The multiples of `2^23` along the lanes. -/
def stepV : IVec S512x256 32 :=
  muli (iota .tc S512x256 32 [1] iota_S512x256_d1_w32) (broadcast S512x256 8388608#32)

theorem stepV_apply (r : Fin 512) (k : Fin 256) : stepV (ix2 r k) = Quant.stepWord k := by
  unfold stepV Quant.stepWord
  show BitVec.ofNat 32 (0 * _ + k.val) * _ = _
  rw [Nat.zero_mul, Nat.zero_add]
  rfl

/-- The exponent word of each entry of a column. -/
def expV (t : FVec Ideal S512x1 .f32) : IVec S512x1 32 :=
  shapeCast S512x1 (multiReductionI .maxsi [1] S512 (select (cmpf .ole (bitcastToFloat .f32 stepV : FVec Ideal S512x256 .f32)
    (broadcastTo S512x256 t broadcasts_S512x1_S512x256)) stepV (broadcast S512x256 0#32)) 2147483648#32 reduces_S512x256_S512 rfl)
    shapeCasts_S512_S512x1

/-- The greatest entry of each row of a table of words. -/
theorem rowMax_apply (w : IVec S512x256 32) (hacc : 2147483648#32 = IKind.maxsi.neutral) (r : Fin 512) :
    multiReductionI .maxsi [1] S512 w 2147483648#32 reduces_S512x256_S512 hacc (ix1 r)
      = (Finset.univ : Finset (Fin 256)).fold IKind.maxsi.op 2147483648#32 fun k => w (ix2 r k) := by
  refine (multiReductionI_eq_fold _ _ _ _ _ _).trans ((Shape.Reduces.fold_filter_drop_single _ _ _ _ _).trans ?_)
  have e : ∀ k : Fin 256, reduces_S512x256_S512.lift (ix1 r) k = ix2 r k := fun k => by
    funext a; match a with | ⟨0, _⟩ => rfl | ⟨1, _⟩ => rfl
  exact Finset.fold_congr (s := (Finset.univ : Finset (Fin 256))) fun k _ => congrArg w (e k)

/-- Of a table of words, those whose value is at most the row's entry of `t`. -/
theorem below_apply (w : IVec S512x256 32) (t : FVec Ideal S512x1 .f32) (r : Fin 512) (k : Fin 256) :
    select (cmpf .ole (bitcastToFloat .f32 w : FVec Ideal S512x256 .f32) (broadcastTo S512x256 t broadcasts_S512x1_S512x256)) w
      (broadcast S512x256 0#32) (ix2 r k)
      = if Ideal.ofBits .f32 (w (ix2 r k)) ≤ t (ix2 r 0) then w (ix2 r k) else 0#32 := by
  have hb : broadcastTo S512x256 t broadcasts_S512x1_S512x256 (ix2 r k) = t (ix2 r 0) :=
    broadcastTo_apply _ _ _ _ fun a => by
      match a with
      | ⟨0, _⟩ => rfl
      | ⟨1, _⟩ => rfl
  show (if Ideal.cmp .ole (Ideal.ofBits .f32 (w (ix2 r k))) (broadcastTo S512x256 t broadcasts_S512x1_S512x256 (ix2 r k)) = 1
    then w (ix2 r k) else 0#32) = _
  rw [hb]
  unfold Ideal.cmp
  by_cases hk : Ideal.ofBits .f32 (w (ix2 r k)) ≤ t (ix2 r 0) <;> simp [hk]

theorem expV_apply (t : FVec Ideal S512x1 .f32) (r : Fin 512) : expV t (ix2 r 0) = Quant.expWord (t (ix2 r 0)) := by
  unfold expV
  rw [shapeCast_a_a1_apply]
  refine (rowMax_apply _ _ r).trans ?_
  unfold Quant.expWord
  refine Finset.fold_congr fun k _ => ?_
  rw [below_apply, stepV_apply]

/-- The scale's word of each entry of a column of exponent words. -/
def wordV (e : IVec S512x1 32) : IVec S512x1 32 :=
  select (ori (cmpi .eq (andi e (broadcast S512x1 2139095040#32)) (broadcast S512x1 0#32))
    (cmpi .eq (andi e (broadcast S512x1 2139095040#32)) (broadcast S512x1 2139095040#32)))
    (broadcast S512x1 1065353216#32) (addi (andi e (broadcast S512x1 2139095040#32)) (broadcast S512x1 8388608#32))

theorem wordV_apply (e : IVec S512x1 32) (i : S512x1.Idx) : wordV e i = Quant.wordOf (e i) := by
  show (if (BitVec.ofBool (e i &&& 2139095040#32 == 0#32) ||| BitVec.ofBool (e i &&& 2139095040#32 == 2139095040#32)) = 1
    then 1065353216#32 else (e i &&& 2139095040#32) + 8388608#32) = _
  unfold Quant.wordOf
  generalize e i &&& 2139095040#32 = w
  by_cases h0 : w = 0#32
  · subst h0; rfl
  · by_cases h1 : w = 2139095040#32
    · subst h1; rfl
    · have e0 : (w == 0#32) = false := by simpa using h0
      have e1 : (w == 2139095040#32) = false := by simpa using h1
      rw [e0, e1, if_neg (by decide), if_neg (by simp [h0, h1])]

theorem word_apply (v : Vec Ideal S512x128 .bf16) (r : Fin 512) :
    k0_pay22 (F := Ideal) v (ix2 r 0) = Quant.scaleWord (row v r) := by
  show wordV (expV (ratioV v)) _ = _
  rw [wordV_apply, expV_apply, ratioV_apply]
  rfl

theorem scale_apply (v : Vec Ideal S512x128 .bf16) (r : Fin 512) :
    k0_pay23 (F := Ideal) v (ix2 r 0) = Quant.scale (row v r) := by
  show Ideal.ofBits .f32 (k0_pay22 (F := Ideal) v (ix2 r 0)) = _
  rw [word_apply]
  rfl

theorem column_apply {φ : FTy} (t : FVec Ideal S512x1 φ) (r : Fin 512) (l : Fin 128) :
    broadcastTo S512x128 t broadcasts_S512x1_S512x128 (ix2 r l) = t (ix2 r 0) :=
  broadcastTo_apply _ _ _ _ fun a => by
    match a with
    | ⟨0, _⟩ => rfl
    | ⟨1, _⟩ => rfl

/-- The reciprocals of a column of scales, from the scales' words. -/
def invV (w : IVec S512x1 32) : FVec Ideal S512x1 .f32 :=
  bitcastToFloat .f32 (subi (broadcast S512x1 2130706432#32) w)

theorem invV_apply (w : IVec S512x1 32) (i : S512x1.Idx) : invV w i = Ideal.ofBits .f32 (2130706432#32 - w i) := rfl

/-- A group times a column of reciprocals, clipped and rounded to codes. -/
def codesV (x : FVec Ideal S512x128 .bf16) (t : FVec Ideal S512x1 .f32) : FVec Ideal S512x128 .fp8e4m3 :=
  truncf .fp8e4m3 (minimumf (broadcast S512x128 (Scalar.ofBits .f32 0x43E00000#32)) (maximumf
    (broadcast S512x128 (Scalar.ofBits .f32 0xC3E00000#32)) (mulf (extf .f32 x bitsLt_bf16_f32)
      (broadcastTo S512x128 t broadcasts_S512x1_S512x128))) : FVec Ideal S512x128 .f32) bitsLt_fp8e4m3_f32

theorem codesV_apply (x : FVec Ideal S512x128 .bf16) (t : FVec Ideal S512x1 .f32) (r : Fin 512) (l : Fin 128) :
    codesV x t (ix2 r l) = Quant.clip (x (ix2 r l) * t (ix2 r 0)) := by
  rw [← column_apply t r l]
  rfl

/-- The codes of a group. -/
def codes (v : Vec Ideal S512x128 .bf16) : FVec Ideal S512x128 .fp8e4m3 :=
  codesV (k0_pay21 v) (invV (k0_pay22 v))

theorem codes_apply (v : Vec Ideal S512x128 .bf16) (r : Fin 512) (l : Fin 128) :
    codes v (ix2 r l) = Quant.code (row v r) l := by
  unfold codes
  rw [codesV_apply, invV_apply, word_apply]
  unfold k0_pay21
  rw [shapeCast_self]
  rfl

/-- Codes times a column of scales. -/
def scaledV (q : FVec Ideal S512x128 .fp8e4m3) (t : FVec Ideal S512x1 .f32) : FVec Ideal S512x128 .bf16 :=
  shapeCast S512x128 (mulf (extf .bf16 q bitsLt_fp8e4m3_bf16) (broadcastTo S512x128 (truncf .bf16 t bitsLt_bf16_f32 : FVec Ideal S512x1 .bf16)
    broadcasts_S512x1_S512x128) : FVec Ideal S512x128 .bf16) shapeCasts_S512x128_S512x128

theorem scaledV_apply (q : FVec Ideal S512x128 .fp8e4m3) (t : FVec Ideal S512x1 .f32) (r : Fin 512) (l : Fin 128) :
    scaledV q t (ix2 r l) = q (ix2 r l) * t (ix2 r 0) := by
  unfold scaledV
  rw [shapeCast_self, ← column_apply t r l]
  rfl

/-- The scaled codes of a group. -/
def scaled (v : Vec Ideal S512x128 .bf16) : FVec Ideal S512x128 .bf16 := scaledV (codes v) (k0_pay23 v)

theorem scaled_apply (v : Vec Ideal S512x128 .bf16) (r : Fin 512) (l : Fin 128) :
    scaled v (ix2 r l) = Quant.code (row v r) l * Quant.scale (row v r) := by
  unfold scaled
  rw [scaledV_apply, codes_apply, scale_apply]

end Cert.KernelIdeal.Block

end
-- ==== Proof.Block.lean ====
/-
  Hand-written, untrusted. What one grid point stores, as whole-block functions of the blocks it loads.
-/
module

public import proofs.«01_k».proof.Proof.Group
public import proofs.«01_k».proof.Proof.Gen.KernelIdeal.Value
public import Idealize.ShloMosaic.Lib.Pipeline.ReadBack

@[expose] public section

noncomputable section

namespace Cert.KernelIdeal.Block

open Idealize.ShloMosaic Idealize.ShloMosaic.TcCoe Idealize.ShloMosaic.Tactic Idealize.ShloMosaic.ValueIdx Idealize.SL.Sem Cert.KernelIdeal Cert.KernelIdeal.Gen

/-- Group `g` of row `r` of a block of `x`. -/
def group (x : Vec Ideal S512x2048 .bf16) (r : Fin 512) (g : Fin 16) : Fin 128 → EReal :=
  fun l => x (ix2 r ⟨g.val * 128 + l.val, by omega⟩)

/-- The group a column lies in, and its place there. -/
def grp (d : Fin 2048) : Fin 16 := ⟨d.val / 128, by omega⟩
def lane (d : Fin 2048) : Fin 128 := ⟨d.val % 128, by omega⟩

/-- A block's codes. -/
def codesAt (x : Vec Ideal S512x2048 .bf16) : Vec Ideal S512x2048 .fp8e4m3 :=
  fun j => Quant.code (group x (j 0) (grp (j 1))) (lane (j 1))

/-- A block's scales. -/
def scalesAt (x : Vec Ideal S512x2048 .bf16) : Vec Ideal S512x16 .f32 :=
  fun j => Quant.scale (group x (j 0) (j 1))

/-- A block's scaled codes. -/
def scaledAt (x : Vec Ideal S512x2048 .bf16) : Vec Ideal S512x2048 .bf16 :=
  fun j => Quant.code (group x (j 0) (grp (j 1))) (lane (j 1)) * Quant.scale (group x (j 0) (grp (j 1)))

variable (c : Dev nD) (i : grid0.Coords)
variable (arg1 : Memref sig .tc .smem S16x36 .f32) (harg1 : arg1.IsWhole) (arg2 : Memref sig .tc .vmem S512x2048 .bf16) (harg2 : arg2.IsWhole) (arg3 : Memref sig .tc .vmem S2048x4608 .fp8e4m3) (harg3 : arg3.IsWhole) (arg4 : Memref sig .tc .vmem S512x4608 .bf16) (harg4 : arg4.IsWhole) (arg5 : Memref sig .tc .vmem S512x2048 .fp8e4m3) (harg5 : arg5.IsWhole) (arg6 : Memref sig .tc .vmem S512x16 .f32) (harg6 : arg6.IsWhole) (arg7 : Memref sig .tc .vmem S2048x4608 .bf16) (harg7 : arg7.IsWhole) (arg8 : Memref sig .tc .vmem S512x2048 .bf16) (harg8 : arg8.IsWhole)
variable (x0 : Vec Ideal S16x36 .f32) (x1 : Vec Ideal S512x2048 .bf16) (x2 : Vec Ideal S2048x4608 .fp8e4m3) (xs0 : Vec Ideal S2048x4608 .bf16)

/-- Stores that are blocks of `G` and cover its shape leave `G`. -/
theorem canon_eq_of_pieces {S : Shape} {e : EltTy} (G : S.Idx → Elt Ideal e) (L : List (View.Piece (Elt Ideal) S e))
    (hc : ∀ y, ∃ p ∈ L, y ∈ p.1.set) (h : View.PiecesOf G L) : View.canon L = G :=
  funext fun y => View.canon_apply_of_pieces G L h.mem y (hc y)

/-- 128 columns of a block from column `o` on. -/
abbrev InCut (o : Nat) : Prop := ∀ a, (![0, o] : Fin 2 → Nat) a + S512x128.size a ≤ S512x2048.size a
abbrev cut (o : Nat) (inb : InCut o) : Rect S512x2048 := Rect.unit ![0, o] S512x128.size inb

/-- A row of the load of one group of columns is that group of the row. -/
theorem row_load {o : Nat} (g : Fin 16) (ho : o = g.val * 128) (inb : InCut o) (r : Fin 512) :
    row (View.readAt (Elt Ideal) arg2.view (cut o inb).toLoadRect (harg2.unread x1)) r = group x1 r g := by
  funext l
  show View.readAt (Elt Ideal) arg2.view (cut o inb).toLoadRect (harg2.unread x1) (ix2 r l) = _
  rw [View.readAt_eq_ld, harg2.read_unread]
  subst ho
  refine congrArg x1 (funext fun a => Fin.ext ?_)
  match a with
  | ⟨0, _⟩ => show 0 + 1 * r.val = r.val; omega
  | ⟨1, _⟩ => show g.val * 128 + 1 * l.val = g.val * 128 + l.val; omega

/-- Where entry `x` of the store of one group of columns lies. -/
theorem emb_group {o : Nat} (g : Fin 16) (ho : o = g.val * 128) (inb : InCut o) (r : Fin 512) (l : Fin 128) :
    ((cut o inb).emb (ix2 r l)) 0 = r ∧ grp (((cut o inb).emb (ix2 r l)) 1) = g
      ∧ lane (((cut o inb).emb (ix2 r l)) 1) = l := by
  subst ho
  refine ⟨Fin.ext ?_, Fin.ext ?_, Fin.ext ?_⟩
  · show 0 + 1 * r.val = r.val; omega
  · show (g.val * 128 + 1 * l.val) / 128 = g.val; omega
  · show (g.val * 128 + 1 * l.val) % 128 = l.val; omega

theorem codes_piece {o : Nat} (g : Fin 16) (ho : o = g.val * 128) (inb : InCut o) (x : S512x128.Idx) :
    codes (View.readAt (Elt Ideal) arg2.view (cut o inb).toLoadRect (harg2.unread x1)) x
      = codesAt x1 ((cut o inb).emb x) := by
  obtain ⟨r, l, rfl⟩ : ∃ r l, x = ix2 r l := ⟨x 0, x 1, eq_ix2 x⟩
  unfold codesAt
  obtain ⟨h0, h1, h2⟩ := emb_group g ho inb r l
  rw [h0, h1, h2, codes_apply, row_load arg2 harg2 x1 g ho]

theorem scaled_piece {o : Nat} (g : Fin 16) (ho : o = g.val * 128) (inb : InCut o) (x : S512x128.Idx) :
    scaled (View.readAt (Elt Ideal) arg2.view (cut o inb).toLoadRect (harg2.unread x1)) x
      = scaledAt x1 ((cut o inb).emb x) := by
  obtain ⟨r, l, rfl⟩ : ∃ r l, x = ix2 r l := ⟨x 0, x 1, eq_ix2 x⟩
  unfold scaledAt
  obtain ⟨h0, h1, h2⟩ := emb_group g ho inb r l
  rw [h0, h1, h2, scaled_apply, row_load arg2 harg2 x1 g ho]

/-- The sixteen stores of codes. -/
theorem out4_B (hc0 : ¬cond0_0 i) :
    out0_B_4 c i arg1 harg1 arg2 harg2 arg3 harg3 arg4 harg4 arg5 harg5 arg6 harg6 arg7 harg7 arg8 harg8 hc0 x0 x1 x2 xs0 = codesAt x1 := by
  unfold out0_B_4
  rw [View.read_writes_junk_eq_canon]
  refine canon_eq_of_pieces _ _ (cover0_B_4 c i arg1 harg1 arg2 harg2 arg3 harg3 arg4 harg4 arg5 harg5 arg6 harg6 arg7 harg7 arg8 harg8 hc0 x0 x1 x2 xs0) ?_
  unfold kernelRun0_B
  dsimp only
  sl_unfold_words
  exact ⟨codes_piece arg2 harg2 x1 15 rfl _,
      codes_piece arg2 harg2 x1 14 rfl _,
      codes_piece arg2 harg2 x1 13 rfl _,
      codes_piece arg2 harg2 x1 12 rfl _,
      codes_piece arg2 harg2 x1 11 rfl _,
      codes_piece arg2 harg2 x1 10 rfl _,
      codes_piece arg2 harg2 x1 9 rfl _,
      codes_piece arg2 harg2 x1 8 rfl _,
      codes_piece arg2 harg2 x1 7 rfl _,
      codes_piece arg2 harg2 x1 6 rfl _,
      codes_piece arg2 harg2 x1 5 rfl _,
      codes_piece arg2 harg2 x1 4 rfl _,
      codes_piece arg2 harg2 x1 3 rfl _,
      codes_piece arg2 harg2 x1 2 rfl _,
      codes_piece arg2 harg2 x1 1 rfl _,
      codes_piece arg2 harg2 x1 0 rfl _, trivial⟩

end Cert.KernelIdeal.Block

end
-- ==== Proof.Weights.lean ====
/-
  Hand-written, untrusted. What the first grid point's loop leaves in the scratch: every weight times the scale of its block.
-/
module

public import proofs.«01_k».proof.Proof.Block

@[expose] public section

noncomputable section

namespace Cert.KernelIdeal.Block

open Idealize.ShloMosaic Idealize.ShloMosaic.TcCoe Idealize.ShloMosaic.Tactic Idealize.ShloMosaic.ValueIdx Idealize.SL.Sem Cert.KernelIdeal Cert.KernelIdeal.Gen

variable (c : Dev nD) (i : grid0.Coords)
variable (arg1 : Memref sig .tc .smem S16x36 .f32) (harg1 : arg1.IsWhole) (arg2 : Memref sig .tc .vmem S512x2048 .bf16) (harg2 : arg2.IsWhole) (arg3 : Memref sig .tc .vmem S2048x4608 .fp8e4m3) (harg3 : arg3.IsWhole) (arg4 : Memref sig .tc .vmem S512x4608 .bf16) (harg4 : arg4.IsWhole) (arg5 : Memref sig .tc .vmem S512x2048 .fp8e4m3) (harg5 : arg5.IsWhole) (arg6 : Memref sig .tc .vmem S512x16 .f32) (harg6 : arg6.IsWhole) (arg7 : Memref sig .tc .vmem S2048x4608 .bf16) (harg7 : arg7.IsWhole) (arg8 : Memref sig .tc .vmem S512x2048 .bf16) (harg8 : arg8.IsWhole)
variable (x0 : Vec Ideal S16x36 .f32) (x1 : Vec Ideal S512x2048 .bf16) (x2 : Vec Ideal S2048x4608 .fp8e4m3) (xs0 : Vec Ideal S2048x4608 .bf16)

/-- The scaled weights: entry (k, n) times the scale of its block of 128 × 128. -/
def weightAt : Vec Ideal S2048x4608 .bf16 := fun j =>
  x2 j * x0 (ix2 ⟨(j 0).val / 128, Nat.div_lt_of_lt_mul (j 0).isLt⟩ ⟨(j 1).val / 128, Nat.div_lt_of_lt_mul (j 1).isLt⟩)

/-- One trip's store for one block of rows. -/
theorem weight_piece {o1 o2 : Fin 2 → Nat} (r b k : Nat) (hr : r = 128 * b) (h1 : o1 = ![b, k]) (h2 : o2 = ![r, 128 * k])
    (inb1 : ∀ a, o1 a + S1x1.size a ≤ S16x36.size a) (inb2 : ∀ a, o2 a + S128x128.size a ≤ S2048x4608.size a)
    (x : S128x128.Idx) :
    k0_pay2 (F := Ideal) (View.readAt (Elt Ideal) arg1.view (Rect.unit (s := S16x36) o1 S1x1.size inb1).toLoadRect (harg1.unread x0) (Shape.Idx.first (s := S1x1) (by decide)))
      (View.readAt (Elt Ideal) arg3.view (Rect.unit (s := S2048x4608) o2 S128x128.size inb2).toLoadRect (harg3.unread x2)) x
      = weightAt x0 x2 ((Rect.unit (s := S2048x4608) o2 S128x128.size inb2).emb x) := by
  unfold k0_pay2
  rw [shapeCast_self]
  show View.readAt (Elt Ideal) arg3.view (Rect.unit (s := S2048x4608) o2 S128x128.size inb2).toLoadRect (harg3.unread x2) x
    * View.readAt (Elt Ideal) arg1.view (Rect.unit (s := S16x36) o1 S1x1.size inb1).toLoadRect (harg1.unread x0) (Shape.Idx.first (s := S1x1) (by decide)) = _
  rw [View.readAt_eq_ld, View.readAt_eq_ld, harg3.read_unread, harg1.read_unread]
  subst h1 h2 hr
  obtain ⟨p, q, rfl⟩ : ∃ p q, x = ix2 p q := ⟨x 0, x 1, eq_ix2 x⟩
  unfold weightAt
  refine congrArg₂ (· * ·) rfl (congrArg x0 (funext fun a => Fin.ext ?_))
  match a with
  | ⟨0, _⟩ => show b + 1 * 0 = (128 * b + 1 * p.val) / 128; omega
  | ⟨1, _⟩ => show k + 1 * 0 = (128 * k + 1 * q.val) / 128; omega

theorem trip_pieces (hc0 : cond0_0 i) (k : Fin k0_t1_loop.trips) :
    View.PiecesOf (weightAt x0 x2) (tripL_k0_t1 (F := Ideal) Variants.none c none i arg1 harg1 arg2 harg2 arg3 harg3 arg4 harg4 arg5 harg5 arg6 harg6 arg7 harg7 arg8 harg8 hc0 (harg1.unread x0) (harg3.unread x2) k) := by
  unfold tripL_k0_t1 trip_k0_t1
  dsimp only
  sl_unfold_run_names
  exact ⟨
    weight_piece arg1 harg1 arg3 harg3 x0 x2 1920 15 k.val rfl (k0_off31_eq k) (k0_off32_eq k) _ _,
    weight_piece arg1 harg1 arg3 harg3 x0 x2 1792 14 k.val rfl (k0_off29_eq k) (k0_off30_eq k) _ _,
    weight_piece arg1 harg1 arg3 harg3 x0 x2 1664 13 k.val rfl (k0_off27_eq k) (k0_off28_eq k) _ _,
    weight_piece arg1 harg1 arg3 harg3 x0 x2 1536 12 k.val rfl (k0_off25_eq k) (k0_off26_eq k) _ _,
    weight_piece arg1 harg1 arg3 harg3 x0 x2 1408 11 k.val rfl (k0_off23_eq k) (k0_off24_eq k) _ _,
    weight_piece arg1 harg1 arg3 harg3 x0 x2 1280 10 k.val rfl (k0_off21_eq k) (k0_off22_eq k) _ _,
    weight_piece arg1 harg1 arg3 harg3 x0 x2 1152 9 k.val rfl (k0_off19_eq k) (k0_off20_eq k) _ _,
    weight_piece arg1 harg1 arg3 harg3 x0 x2 1024 8 k.val rfl (k0_off17_eq k) (k0_off18_eq k) _ _,
    weight_piece arg1 harg1 arg3 harg3 x0 x2 896 7 k.val rfl (k0_off15_eq k) (k0_off16_eq k) _ _,
    weight_piece arg1 harg1 arg3 harg3 x0 x2 768 6 k.val rfl (k0_off13_eq k) (k0_off14_eq k) _ _,
    weight_piece arg1 harg1 arg3 harg3 x0 x2 640 5 k.val rfl (k0_off11_eq k) (k0_off12_eq k) _ _,
    weight_piece arg1 harg1 arg3 harg3 x0 x2 512 4 k.val rfl (k0_off9_eq k) (k0_off10_eq k) _ _,
    weight_piece arg1 harg1 arg3 harg3 x0 x2 384 3 k.val rfl (k0_off7_eq k) (k0_off8_eq k) _ _,
    weight_piece arg1 harg1 arg3 harg3 x0 x2 256 2 k.val rfl (k0_off5_eq k) (k0_off6_eq k) _ _,
    weight_piece arg1 harg1 arg3 harg3 x0 x2 128 1 k.val rfl (k0_off3_eq k) (k0_off4_eq k) _ _,
    weight_piece arg1 harg1 arg3 harg3 x0 x2 0 0 k.val rfl (k0_off1_eq k) (k0_off2_eq k) _ _, trivial⟩

theorem piecesOf_append {S : Shape} {e : EltTy} (G : S.Idx → Elt Ideal e) (L' : List (View.Piece (Elt Ideal) S e)) (h' : View.PiecesOf G L') :
    ∀ L : List (View.Piece (Elt Ideal) S e), View.PiecesOf G L → View.PiecesOf G (L ++ L')
  | [], _ => h'
  | _ :: L, h => ⟨h.1, piecesOf_append G L' h' L h.2⟩

theorem loop_pieces (hc0 : cond0_0 i) : ∀ k : Nat, k ≤ k0_t1_loop.trips →
    View.PiecesOf (weightAt x0 x2) (pb_k0_t1 (F := Ideal) Variants.none c none i arg1 harg1 arg2 harg2 arg3 harg3 arg4 harg4 arg5 harg5 arg6 harg6 arg7 harg7 arg8 harg8 hc0 (harg1.unread x0) (harg3.unread x2) k)
  | 0, _ => by rw [pb_k0_t1]; trivial
  | k + 1, hk => by
    have e := pb_k0_t1_succ (F := Ideal) Variants.none c none i arg1 harg1 arg2 harg2 arg3 harg3 arg4 harg4 arg5 harg5 arg6 harg6 arg7 harg7 arg8 harg8 hc0 (harg1.unread x0) (harg3.unread x2) ⟨k, hk⟩
    rw [e]
    exact piecesOf_append _ _ (loop_pieces hc0 k (Nat.le_of_succ_le hk)) _ (trip_pieces c i arg1 harg1 arg2 harg2 arg3 harg3 arg4 harg4 arg5 harg5 arg6 harg6 arg7 harg7 arg8 harg8 x0 x2 hc0 ⟨k, hk⟩)

include x1 in
/-- The loop's stores together are the scaled weights. -/
theorem loop_canon (hc0 : cond0_0 i) :
    View.canon (pb_k0_t1 (F := Ideal) Variants.none c none i arg1 harg1 arg2 harg2 arg3 harg3 arg4 harg4 arg5 harg5 arg6 harg6 arg7 harg7 arg8 harg8 hc0 (harg1.unread x0) (harg3.unread x2) (Scf.trips (0#32) (Scalar.addi 0#32 36#32) 1#32))
      = weightAt x0 x2 :=
  canon_eq_of_pieces _ _ (scover0_A_0 c i arg1 harg1 arg2 harg2 arg3 harg3 arg4 harg4 arg5 harg5 arg6 harg6 arg7 harg7 arg8 harg8 hc0 x0 x1 x2)
    (loop_pieces c i arg1 harg1 arg2 harg2 arg3 harg3 arg4 harg4 arg5 harg5 arg6 harg6 arg7 harg7 arg8 harg8 x0 x2 hc0 _ (le_refl _))

/-- What the first point leaves in the scratch. -/
theorem sout_A (hc0 : cond0_0 i) :
    sout0_A_0 c i arg1 harg1 arg2 harg2 arg3 harg3 arg4 harg4 arg5 harg5 arg6 harg6 arg7 harg7 arg8 harg8 hc0 x0 x1 x2 = weightAt x0 x2 := by
  unfold sout0_A_0
  rw [View.read_writes_junk_eq_canon]
  exact loop_canon c i arg1 harg1 arg2 harg2 arg3 harg3 arg4 harg4 arg5 harg5 arg6 harg6 arg7 harg7 arg8 harg8 x0 x1 x2 hc0

end Cert.KernelIdeal.Block

end
-- ==== Proof.Point.lean ====
/-
  Hand-written, untrusted. What one grid point stores: the product's columns and the scales.
-/
module

public import proofs.«01_k».proof.Proof.Weights
public import Idealize.ShloMosaic.Lib.MatmulPlain
public import Idealize.ShloMosaic.Lib.Pipeline.ValueKit.Tiles

@[expose] public section

noncomputable section

namespace Cert.KernelIdeal.Block

open Idealize.ShloMosaic Idealize.ShloMosaic.TcCoe Idealize.ShloMosaic.Tactic Idealize.ShloMosaic.ValueIdx Idealize.SL.Sem Cert.KernelIdeal Cert.KernelIdeal.Gen

/-- The product of the scaled codes and the scaled weights. -/
def productAt (xd : Vec Ideal S512x2048 .bf16) (w : Vec Ideal S2048x4608 .bf16) : Vec Ideal S512x4608 .bf16 :=
  fun j => ∑ k : Fin 2048, xd (ix2 (j 0) k) * w (ix2 k (j 1))

theorem dot_apply (xd : Vec Ideal S512x2048 .bf16) (w : Vec Ideal S2048x512 .bf16) (r q : Fin 512) :
    k0_pay1 xd w (ix2 r q) = ∑ k : Fin 2048, xd (ix2 r k) * w (ix2 k q) := by
  unfold k0_pay1
  refine (Ideal.matmul_plain_apply (φ₁ := .bf16) (φ₂ := .bf16) none xd w (constant (F := Ideal) S512x512 .f32 0x00000000#32) r q).trans ?_
  show Ideal.ofBits .f32 0x00000000#32 + _ = _
  rw [Ideal.ofBits_zero_f32, zero_add]

/-- One store of 512 columns of the product, from 512 columns `w'` of the weights. -/
theorem product_piece {o : Nat} (xd : Vec Ideal S512x2048 .bf16) (w : Vec Ideal S2048x4608 .bf16) (w' : Vec Ideal S2048x512 .bf16)
    (inb : ∀ a, (![0, o] : Fin 2 → Nat) a + S2048x512.size a ≤ S2048x4608.size a)
    (inb' : ∀ a, (![0, o] : Fin 2 → Nat) a + S512x512.size a ≤ S512x4608.size a)
    (hw : w' = fun j => w ((Rect.unit (s := S2048x4608) ![0, o] S2048x512.size inb).toLoadRect.idx j)) (x : S512x512.Idx) :
    k0_pay1 xd w' x = productAt xd w ((Rect.unit (s := S512x4608) ![0, o] S512x512.size inb').emb x) := by
  obtain ⟨r, q, rfl⟩ : ∃ r q, x = ix2 r q := ⟨x 0, x 1, eq_ix2 x⟩
  rw [dot_apply, hw]
  unfold productAt
  refine Finset.sum_congr rfl fun k _ => congrArg₂ (· * ·) (congrArg xd (funext fun a => Fin.ext ?_)) (congrArg w (funext fun a => Fin.ext ?_))
  · match a with
    | ⟨0, _⟩ => show r.val = 0 + 1 * r.val; omega
    | ⟨1, _⟩ => rfl
  · match a with
    | ⟨0, _⟩ => show 0 + 1 * k.val = k.val; omega
    | ⟨1, _⟩ => rfl

/-- One column of scales among the sixteen. -/
theorem scale_column (x : Vec Ideal S512x2048 .bf16) (j : S512x16.Idx) (v : Vec Ideal S512x128 .bf16) (g : Fin 16)
    (hv : ∀ r, row v r = group x r g) : PieceAt (1 : Fin 2) j (scalesAt x j) S512x1 (k0_pay23 v) g.val := by
  intro hj _ i h0 h1
  obtain ⟨r, z, rfl⟩ : ∃ r z, i = ix2 r z := ⟨i 0, i 1, eq_ix2 i⟩
  obtain rfl : z = 0 := Subsingleton.elim _ _
  have hr : r = j 0 := Fin.ext (h1 0 (by decide))
  have hg : j 1 = g := Fin.ext hj
  rw [scale_apply, hv, hr]
  unfold scalesAt
  rw [hg]

variable (c : Dev nD) (i : grid0.Coords)
variable (arg1 : Memref sig .tc .smem S16x36 .f32) (harg1 : arg1.IsWhole) (arg2 : Memref sig .tc .vmem S512x2048 .bf16) (harg2 : arg2.IsWhole) (arg3 : Memref sig .tc .vmem S2048x4608 .fp8e4m3) (harg3 : arg3.IsWhole) (arg4 : Memref sig .tc .vmem S512x4608 .bf16) (harg4 : arg4.IsWhole) (arg5 : Memref sig .tc .vmem S512x2048 .fp8e4m3) (harg5 : arg5.IsWhole) (arg6 : Memref sig .tc .vmem S512x16 .f32) (harg6 : arg6.IsWhole) (arg7 : Memref sig .tc .vmem S2048x4608 .bf16) (harg7 : arg7.IsWhole) (arg8 : Memref sig .tc .vmem S512x2048 .bf16) (harg8 : arg8.IsWhole)
variable (x0 : Vec Ideal S16x36 .f32) (x1 : Vec Ideal S512x2048 .bf16) (x2 : Vec Ideal S2048x4608 .fp8e4m3) (xs0 : Vec Ideal S2048x4608 .bf16)

theorem product_piece_load {o : Nat} (xd : Vec Ideal S512x2048 .bf16)
    (inb : ∀ a, (![0, o] : Fin 2 → Nat) a + S2048x512.size a ≤ S2048x4608.size a)
    (inb' : ∀ a, (![0, o] : Fin 2 → Nat) a + S512x512.size a ≤ S512x4608.size a) (x : S512x512.Idx) :
    k0_pay1 xd (View.readAt (Elt Ideal) arg7.view (Rect.unit (s := S2048x4608) ![0, o] S2048x512.size inb).toLoadRect (harg7.unread xs0)) x
      = productAt xd xs0 ((Rect.unit (s := S512x4608) ![0, o] S512x512.size inb').emb x) :=
  product_piece xd xs0 _ inb inb' (by rw [View.readAt_eq_ld, harg7.read_unread]) x

/-- The sixteen stores of scaled codes, read back whole. -/
theorem xd_B : kernelRun0_B.sl.v789 (F := Ideal) c arg2 harg2 arg8 x1 = scaledAt x1 := by
  unfold kernelRun0_B.sl.v789
  rw [View.readCov_eq_canon']
  rw [canon_eq_of_pieces (scaledAt x1) _ (View.cover_of_tiledL _ S512x128.size (by sl_kernel_rfl))]
  · refine funext fun j => congrArg (scaledAt x1) (funext fun a => Fin.ext ?_)
    match a with
    | ⟨0, _⟩ => show 0 + 1 * (j 0).val = (j 0).val; omega
    | ⟨1, _⟩ => show 0 + 1 * (j 1).val = (j 1).val; omega
  · sl_unfold_words
    exact ⟨scaled_piece arg2 harg2 x1 15 rfl _,
      scaled_piece arg2 harg2 x1 14 rfl _,
      scaled_piece arg2 harg2 x1 13 rfl _,
      scaled_piece arg2 harg2 x1 12 rfl _,
      scaled_piece arg2 harg2 x1 11 rfl _,
      scaled_piece arg2 harg2 x1 10 rfl _,
      scaled_piece arg2 harg2 x1 9 rfl _,
      scaled_piece arg2 harg2 x1 8 rfl _,
      scaled_piece arg2 harg2 x1 7 rfl _,
      scaled_piece arg2 harg2 x1 6 rfl _,
      scaled_piece arg2 harg2 x1 5 rfl _,
      scaled_piece arg2 harg2 x1 4 rfl _,
      scaled_piece arg2 harg2 x1 3 rfl _,
      scaled_piece arg2 harg2 x1 2 rfl _,
      scaled_piece arg2 harg2 x1 1 rfl _,
      scaled_piece arg2 harg2 x1 0 rfl _, trivial⟩

theorem xd_A : kernelRun0_A.sl.v789 (F := Ideal) c arg2 harg2 arg8 x1 = scaledAt x1 := by
  unfold kernelRun0_A.sl.v789
  rw [View.readCov_eq_canon']
  rw [canon_eq_of_pieces (scaledAt x1) _ (View.cover_of_tiledL _ S512x128.size (by sl_kernel_rfl))]
  · refine funext fun j => congrArg (scaledAt x1) (funext fun a => Fin.ext ?_)
    match a with
    | ⟨0, _⟩ => show 0 + 1 * (j 0).val = (j 0).val; omega
    | ⟨1, _⟩ => show 0 + 1 * (j 1).val = (j 1).val; omega
  · sl_unfold_words
    exact ⟨scaled_piece arg2 harg2 x1 15 rfl _,
      scaled_piece arg2 harg2 x1 14 rfl _,
      scaled_piece arg2 harg2 x1 13 rfl _,
      scaled_piece arg2 harg2 x1 12 rfl _,
      scaled_piece arg2 harg2 x1 11 rfl _,
      scaled_piece arg2 harg2 x1 10 rfl _,
      scaled_piece arg2 harg2 x1 9 rfl _,
      scaled_piece arg2 harg2 x1 8 rfl _,
      scaled_piece arg2 harg2 x1 7 rfl _,
      scaled_piece arg2 harg2 x1 6 rfl _,
      scaled_piece arg2 harg2 x1 5 rfl _,
      scaled_piece arg2 harg2 x1 4 rfl _,
      scaled_piece arg2 harg2 x1 3 rfl _,
      scaled_piece arg2 harg2 x1 2 rfl _,
      scaled_piece arg2 harg2 x1 1 rfl _,
      scaled_piece arg2 harg2 x1 0 rfl _, trivial⟩

/-- The nine stores of the product, at a later point. -/
theorem out3_B (hc0 : ¬cond0_0 i) :
    out0_B_3 c i arg1 harg1 arg2 harg2 arg3 harg3 arg4 harg4 arg5 harg5 arg6 harg6 arg7 harg7 arg8 harg8 hc0 x0 x1 x2 xs0 = productAt (scaledAt x1) xs0 := by
  unfold out0_B_3
  rw [View.read_writes_junk_eq_canon]
  refine canon_eq_of_pieces _ _ (cover0_B_3 c i arg1 harg1 arg2 harg2 arg3 harg3 arg4 harg4 arg5 harg5 arg6 harg6 arg7 harg7 arg8 harg8 hc0 x0 x1 x2 xs0) ?_
  unfold kernelRun0_B
  dsimp only
  unfold kernelRun0_B.sl.r_49
  rw [xd_B c arg2 harg2 arg8 x1]
  exact ⟨product_piece_load arg7 harg7 xs0 (scaledAt x1) _ inb_S512x4608_S512x512_0_4096,
      product_piece_load arg7 harg7 xs0 (scaledAt x1) _ inb_S512x4608_S512x512_0_3584,
      product_piece_load arg7 harg7 xs0 (scaledAt x1) _ inb_S512x4608_S512x512_0_3072,
      product_piece_load arg7 harg7 xs0 (scaledAt x1) _ inb_S512x4608_S512x512_0_2560,
      product_piece_load arg7 harg7 xs0 (scaledAt x1) _ inb_S512x4608_S512x512_0_2048,
      product_piece_load arg7 harg7 xs0 (scaledAt x1) _ inb_S512x4608_S512x512_0_1536,
      product_piece_load arg7 harg7 xs0 (scaledAt x1) _ inb_S512x4608_S512x512_0_1024,
      product_piece_load arg7 harg7 xs0 (scaledAt x1) _ inb_S512x4608_S512x512_0_512,
      product_piece_load arg7 harg7 xs0 (scaledAt x1) _ inb_S512x4608_S512x512_0_0, trivial⟩

/-- The scales of a later point. -/
theorem out5_B (hc0 : ¬cond0_0 i) :
    out0_B_5 c i arg1 harg1 arg2 harg2 arg3 harg3 arg4 harg4 arg5 harg5 arg6 harg6 arg7 harg7 arg8 harg8 hc0 x0 x1 x2 xs0 = scalesAt x1 := by
  unfold out0_B_5
  rw [View.read_writes_junk_eq_canon]
  refine canon_eq_of_pieces _ _ (cover0_B_5 c i arg1 harg1 arg2 harg2 arg3 harg3 arg4 harg4 arg5 harg5 arg6 harg6 arg7 harg7 arg8 harg8 hc0 x0 x1 x2 xs0) ?_
  unfold kernelRun0_B
  dsimp only
  sl_unfold_words
  refine ⟨fun j => ?_, trivial⟩
  unfold k0_pay122
  dsimp only
  refine (concatenate_unit_eq (t := S512x16) 1 _ _ j (scalesAt x1 j) ?_ ?_).trans ?_
  · rfl
  · exact ⟨scale_column x1 j _ 0 (row_load arg2 harg2 x1 0 rfl _),
      scale_column x1 j _ 1 (row_load arg2 harg2 x1 1 rfl _),
      scale_column x1 j _ 2 (row_load arg2 harg2 x1 2 rfl _),
      scale_column x1 j _ 3 (row_load arg2 harg2 x1 3 rfl _),
      scale_column x1 j _ 4 (row_load arg2 harg2 x1 4 rfl _),
      scale_column x1 j _ 5 (row_load arg2 harg2 x1 5 rfl _),
      scale_column x1 j _ 6 (row_load arg2 harg2 x1 6 rfl _),
      scale_column x1 j _ 7 (row_load arg2 harg2 x1 7 rfl _),
      scale_column x1 j _ 8 (row_load arg2 harg2 x1 8 rfl _),
      scale_column x1 j _ 9 (row_load arg2 harg2 x1 9 rfl _),
      scale_column x1 j _ 10 (row_load arg2 harg2 x1 10 rfl _),
      scale_column x1 j _ 11 (row_load arg2 harg2 x1 11 rfl _),
      scale_column x1 j _ 12 (row_load arg2 harg2 x1 12 rfl _),
      scale_column x1 j _ 13 (row_load arg2 harg2 x1 13 rfl _),
      scale_column x1 j _ 14 (row_load arg2 harg2 x1 14 rfl _),
      scale_column x1 j _ 15 (row_load arg2 harg2 x1 15 rfl _), trivial⟩
  refine congrArg (scalesAt x1) (funext fun a => Fin.ext ?_)
  match a with
  | ⟨0, _⟩ => show (j 0).val = 0 + 1 * (j 0).val; omega
  | ⟨1, _⟩ => show (j 1).val = 0 + 1 * (j 1).val; omega

include x1 in
theorem product_piece_loop {o : Nat} (hc0 : cond0_0 i) (xd : Vec Ideal S512x2048 .bf16)
    (inb : ∀ a, (![0, o] : Fin 2 → Nat) a + S2048x512.size a ≤ S2048x4608.size a)
    (inb' : ∀ a, (![0, o] : Fin 2 → Nat) a + S512x512.size a ≤ S512x4608.size a) (x : S512x512.Idx) :
    k0_pay1 xd (arg7.view.readCov (pb_k0_t1 (F := Ideal) Variants.none c none i arg1 harg1 arg2 harg2 arg3 harg3 arg4 harg4 arg5 harg5 arg6 harg6 arg7 harg7 arg8 harg8 hc0 (harg1.unread x0) (harg3.unread x2) (Scf.trips (0#32) (Scalar.addi 0#32 36#32) 1#32))
        (Rect.unit (s := S2048x4608) ![0, o] S2048x512.size inb).toLoadRect) x
      = productAt xd (weightAt x0 x2) ((Rect.unit (s := S512x4608) ![0, o] S512x512.size inb').emb x) :=
  product_piece xd (weightAt x0 x2) _ inb inb' (by
    rw [View.readCov_eq_canon', loop_canon c i arg1 harg1 arg2 harg2 arg3 harg3 arg4 harg4 arg5 harg5 arg6 harg6 arg7 harg7 arg8 harg8 x0 x1 x2 hc0]) x

/-- The nine stores of the product, at a first point. -/
theorem out3_A (hc0 : cond0_0 i) :
    out0_A_3 c i arg1 harg1 arg2 harg2 arg3 harg3 arg4 harg4 arg5 harg5 arg6 harg6 arg7 harg7 arg8 harg8 hc0 x0 x1 x2 = productAt (scaledAt x1) (weightAt x0 x2) := by
  unfold out0_A_3
  rw [View.read_writes_junk_eq_canon]
  refine canon_eq_of_pieces _ _ (cover0_A_3 c i arg1 harg1 arg2 harg2 arg3 harg3 arg4 harg4 arg5 harg5 arg6 harg6 arg7 harg7 arg8 harg8 hc0 x0 x1 x2) ?_
  unfold kernelRun0_A
  dsimp only
  unfold kernelRun0_A.sl.r_49
  rw [xd_A c arg2 harg2 arg8 x1]
  exact ⟨product_piece_loop c i arg1 harg1 arg2 harg2 arg3 harg3 arg4 harg4 arg5 harg5 arg6 harg6 arg7 harg7 arg8 harg8 x0 x1 x2 hc0 (scaledAt x1) _ inb_S512x4608_S512x512_0_4096,
      product_piece_loop c i arg1 harg1 arg2 harg2 arg3 harg3 arg4 harg4 arg5 harg5 arg6 harg6 arg7 harg7 arg8 harg8 x0 x1 x2 hc0 (scaledAt x1) _ inb_S512x4608_S512x512_0_3584,
      product_piece_loop c i arg1 harg1 arg2 harg2 arg3 harg3 arg4 harg4 arg5 harg5 arg6 harg6 arg7 harg7 arg8 harg8 x0 x1 x2 hc0 (scaledAt x1) _ inb_S512x4608_S512x512_0_3072,
      product_piece_loop c i arg1 harg1 arg2 harg2 arg3 harg3 arg4 harg4 arg5 harg5 arg6 harg6 arg7 harg7 arg8 harg8 x0 x1 x2 hc0 (scaledAt x1) _ inb_S512x4608_S512x512_0_2560,
      product_piece_loop c i arg1 harg1 arg2 harg2 arg3 harg3 arg4 harg4 arg5 harg5 arg6 harg6 arg7 harg7 arg8 harg8 x0 x1 x2 hc0 (scaledAt x1) _ inb_S512x4608_S512x512_0_2048,
      product_piece_loop c i arg1 harg1 arg2 harg2 arg3 harg3 arg4 harg4 arg5 harg5 arg6 harg6 arg7 harg7 arg8 harg8 x0 x1 x2 hc0 (scaledAt x1) _ inb_S512x4608_S512x512_0_1536,
      product_piece_loop c i arg1 harg1 arg2 harg2 arg3 harg3 arg4 harg4 arg5 harg5 arg6 harg6 arg7 harg7 arg8 harg8 x0 x1 x2 hc0 (scaledAt x1) _ inb_S512x4608_S512x512_0_1024,
      product_piece_loop c i arg1 harg1 arg2 harg2 arg3 harg3 arg4 harg4 arg5 harg5 arg6 harg6 arg7 harg7 arg8 harg8 x0 x1 x2 hc0 (scaledAt x1) _ inb_S512x4608_S512x512_0_512,
      product_piece_loop c i arg1 harg1 arg2 harg2 arg3 harg3 arg4 harg4 arg5 harg5 arg6 harg6 arg7 harg7 arg8 harg8 x0 x1 x2 hc0 (scaledAt x1) _ inb_S512x4608_S512x512_0_0, trivial⟩

/-- The sixteen stores of codes, at the first point. -/
theorem out4_A (hc0 : cond0_0 i) :
    out0_A_4 c i arg1 harg1 arg2 harg2 arg3 harg3 arg4 harg4 arg5 harg5 arg6 harg6 arg7 harg7 arg8 harg8 hc0 x0 x1 x2 = codesAt x1 := by
  unfold out0_A_4
  rw [View.read_writes_junk_eq_canon]
  refine canon_eq_of_pieces _ _ (cover0_A_4 c i arg1 harg1 arg2 harg2 arg3 harg3 arg4 harg4 arg5 harg5 arg6 harg6 arg7 harg7 arg8 harg8 hc0 x0 x1 x2) ?_
  unfold kernelRun0_A
  dsimp only
  sl_unfold_words
  exact ⟨codes_piece arg2 harg2 x1 15 rfl _,
      codes_piece arg2 harg2 x1 14 rfl _,
      codes_piece arg2 harg2 x1 13 rfl _,
      codes_piece arg2 harg2 x1 12 rfl _,
      codes_piece arg2 harg2 x1 11 rfl _,
      codes_piece arg2 harg2 x1 10 rfl _,
      codes_piece arg2 harg2 x1 9 rfl _,
      codes_piece arg2 harg2 x1 8 rfl _,
      codes_piece arg2 harg2 x1 7 rfl _,
      codes_piece arg2 harg2 x1 6 rfl _,
      codes_piece arg2 harg2 x1 5 rfl _,
      codes_piece arg2 harg2 x1 4 rfl _,
      codes_piece arg2 harg2 x1 3 rfl _,
      codes_piece arg2 harg2 x1 2 rfl _,
      codes_piece arg2 harg2 x1 1 rfl _,
      codes_piece arg2 harg2 x1 0 rfl _, trivial⟩

/-- The scales of a first point. -/
theorem out5_A (hc0 : cond0_0 i) :
    out0_A_5 c i arg1 harg1 arg2 harg2 arg3 harg3 arg4 harg4 arg5 harg5 arg6 harg6 arg7 harg7 arg8 harg8 hc0 x0 x1 x2 = scalesAt x1 := by
  unfold out0_A_5
  rw [View.read_writes_junk_eq_canon]
  refine canon_eq_of_pieces _ _ (cover0_A_5 c i arg1 harg1 arg2 harg2 arg3 harg3 arg4 harg4 arg5 harg5 arg6 harg6 arg7 harg7 arg8 harg8 hc0 x0 x1 x2) ?_
  unfold kernelRun0_A
  dsimp only
  sl_unfold_words
  refine ⟨fun j => ?_, trivial⟩
  unfold k0_pay122
  dsimp only
  refine (concatenate_unit_eq (t := S512x16) 1 _ _ j (scalesAt x1 j) ?_ ?_).trans ?_
  · rfl
  · exact ⟨scale_column x1 j _ 0 (row_load arg2 harg2 x1 0 rfl _),
      scale_column x1 j _ 1 (row_load arg2 harg2 x1 1 rfl _),
      scale_column x1 j _ 2 (row_load arg2 harg2 x1 2 rfl _),
      scale_column x1 j _ 3 (row_load arg2 harg2 x1 3 rfl _),
      scale_column x1 j _ 4 (row_load arg2 harg2 x1 4 rfl _),
      scale_column x1 j _ 5 (row_load arg2 harg2 x1 5 rfl _),
      scale_column x1 j _ 6 (row_load arg2 harg2 x1 6 rfl _),
      scale_column x1 j _ 7 (row_load arg2 harg2 x1 7 rfl _),
      scale_column x1 j _ 8 (row_load arg2 harg2 x1 8 rfl _),
      scale_column x1 j _ 9 (row_load arg2 harg2 x1 9 rfl _),
      scale_column x1 j _ 10 (row_load arg2 harg2 x1 10 rfl _),
      scale_column x1 j _ 11 (row_load arg2 harg2 x1 11 rfl _),
      scale_column x1 j _ 12 (row_load arg2 harg2 x1 12 rfl _),
      scale_column x1 j _ 13 (row_load arg2 harg2 x1 13 rfl _),
      scale_column x1 j _ 14 (row_load arg2 harg2 x1 14 rfl _),
      scale_column x1 j _ 15 (row_load arg2 harg2 x1 15 rfl _), trivial⟩
  refine congrArg (scalesAt x1) (funext fun a => Fin.ext ?_)
  match a with
  | ⟨0, _⟩ => show (j 0).val = 0 + 1 * (j 0).val; omega
  | ⟨1, _⟩ => show (j 1).val = 0 + 1 * (j 1).val; omega

end Cert.KernelIdeal.Block

end
-- ==== Proof.Array.lean ====
/-
  Hand-written, untrusted. What the kernel's three result arrays hold, as functions of the arrays that its launch reads.
-/
module

public import proofs.«01_k».proof.Proof.Point

@[expose] public section

noncomputable section

namespace Cert.KernelIdeal.Block

open Idealize.ShloMosaic Idealize.ShloMosaic.TcCoe Idealize.ShloMosaic.Tactic Idealize.ShloMosaic.ValueIdx Idealize.SL.Sem Cert.KernelIdeal Cert.KernelIdeal.Gen

variable (m : (ℓ : Loc nD τ sig) → Buf (Elt Ideal) ℓ) (ρ : Dev nD → PrngReg)

/-- The arrays the launch reads: `x` as a matrix, the weights, their scales. -/
abbrev xs (c : Dev nD) : Vec Ideal S6144x2048 .bf16 := V m c main_v0
abbrev ws (c : Dev nD) : Vec Ideal S2048x4608 .fp8e4m3 := V m c main_arg1
abbrev ss (c : Dev nD) : Vec Ideal S16x36 .f32 := V m c main_arg2

theorem index_scale : ∀ t : Fin cfg0.N, win0_0.index t = ![0, 0] := (by decide +kernel : ∀ t : Fin grid0.N, win0_0.index t = ![0, 0])
theorem index_x : ∀ t : Fin cfg0.N, win0_1.index t = ![t.val, 0] := (by decide +kernel : ∀ t : Fin grid0.N, win0_1.index t = ![t.val, 0])
theorem index_weight : ∀ t : Fin cfg0.N, win0_2.index t = ![0, 0] := (by decide +kernel : ∀ t : Fin grid0.N, win0_2.index t = ![0, 0])

/-- Every point finds all of the weights' scales … -/
theorem iblk_scale (c : Dev nD) (t : Fin cfg0.N) : iblk m c 0 t = ss m c := by
  funext y
  refine congrArg (V m c main_arg2) (funext fun a => Fin.ext ?_)
  have h := index_scale t
  match a with
  | ⟨0, _⟩ => show win0_0.index t (0 : Fin 2) * 16 + 1 * (y 0).val = (y 0).val; rw [h]; show 0 * 16 + 1 * (y 0).val = (y 0).val; omega
  | ⟨1, _⟩ => show win0_0.index t (1 : Fin 2) * 36 + 1 * (y 1).val = (y 1).val; rw [h]; show 0 * 36 + 1 * (y 1).val = (y 1).val; omega

/-- … and all of the weights. -/
theorem iblk_weight (c : Dev nD) (t : Fin cfg0.N) : iblk m c 2 t = ws m c := by
  funext y
  refine congrArg (V m c main_arg1) (funext fun a => Fin.ext ?_)
  have h := index_weight t
  match a with
  | ⟨0, _⟩ => show win0_2.index t (0 : Fin 2) * 2048 + 1 * (y 0).val = (y 0).val; rw [h]; show 0 * 2048 + 1 * (y 0).val = (y 0).val; omega
  | ⟨1, _⟩ => show win0_2.index t (1 : Fin 2) * 4608 + 1 * (y 1).val = (y 1).val; rw [h]; show 0 * 4608 + 1 * (y 1).val = (y 1).val; omega

/-- Point `t`'s block of `x` is 512 rows. -/
theorem iblk_x (c : Dev nD) (t : Fin cfg0.N) (r : Fin 512) (d : Fin 2048) (R : Fin 6144) (hR : R.val = t.val * 512 + r.val) :
    iblk m c 1 t (ix2 r d) = xs m c (ix2 R d) := by
  refine congrArg (V m c main_v0) (funext fun a => Fin.ext ?_)
  have h := index_x t
  match a with
  | ⟨0, _⟩ => show win0_1.index t (0 : Fin 2) * 512 + 1 * r.val = R.val; rw [h]; show t.val * 512 + 1 * r.val = R.val; omega
  | ⟨1, _⟩ => show win0_1.index t (1 : Fin 2) * 2048 + 1 * d.val = d.val; rw [h]; show 0 * 2048 + 1 * d.val = d.val; omega

/-- What the outputs and the scratch hold after a point. -/
def stateAt (c : Dev nD) (t : Fin cfg0.N) : Vec Ideal S512x4608 .bf16 × Vec Ideal S512x2048 .fp8e4m3 × Vec Ideal S512x16 .f32 × Vec Ideal S2048x4608 .bf16 :=
  (productAt (scaledAt (iblk m c 1 t)) (weightAt (ss m c) (ws m c)), codesAt (iblk m c 1 t), scalesAt (iblk m c 1 t), weightAt (ss m c) (ws m c))

theorem state_first (c : Dev nD) (t : Fin cfg0.N) (acc) (h0 : t.val % 12 = 0) : Value.stAt0 m c t.val t.isLt acc = stateAt m c t := by
  rw [Value.stAt0_A m c t acc h0, out3_A, out4_A, out5_A, sout_A, iblk_scale, iblk_weight]
  rfl

theorem state_later (c : Dev nD) (t : Fin cfg0.N) (acc) (h0 : ¬t.val % 12 = 0) (hacc : acc.2.2.2 = weightAt (ss m c) (ws m c)) :
    Value.stAt0 m c t.val t.isLt acc = stateAt m c t := by
  rw [Value.stAt0_B m c t acc h0, out3_B, out4_B, out5_B]
  unfold sout0_B_0
  rw [hacc]
  rfl

/-- The scratch keeps the scaled weights from the first point on, so every point stores the product with them. -/
theorem state (c : Dev nD) : ∀ (n : ℕ) (hn : n < cfg0.N), outsAt0 m c n hn = stateAt m c ⟨n, hn⟩
  | 0, hn => (Value.outsAt0_zero m c hn).trans (state_first m c ⟨0, hn⟩ _ rfl)
  | n + 1, hn => by
    have hN : n + 1 < 12 := lt_of_lt_of_eq hn N_0
    rw [Value.outsAt0_succ, state c n]
    exact state_later m c ⟨n + 1, hn⟩ _ (by show ¬(n + 1) % 12 = 0; omega) rfl

/-- Group `g` of row `r` of the whole of `x`. -/
def groupOf (x : Vec Ideal S6144x2048 .bf16) (r : Fin 6144) (g : Fin 16) : Fin 128 → EReal :=
  fun l => x (ix2 r ⟨g.val * 128 + l.val, by omega⟩)

theorem group_iblk (c : Dev nD) (t : Fin cfg0.N) (r : Fin 512) (g : Fin 16) (R : Fin 6144) (hR : R.val = t.val * 512 + r.val) :
    group (iblk m c 1 t) r g = groupOf (xs m c) R g :=
  funext fun _ => iblk_x m c t r _ R hR

/-- The three results, entry by entry. -/
def codesOf (x : Vec Ideal S6144x2048 .bf16) : Vec Ideal S6144x2048 .fp8e4m3 :=
  fun j => Quant.code (groupOf x (j 0) (grp (j 1))) (lane (j 1))
def scalesOf (x : Vec Ideal S6144x2048 .bf16) : Vec Ideal S6144x16 .f32 :=
  fun j => Quant.scale (groupOf x (j 0) (j 1))
def productOf (x : Vec Ideal S6144x2048 .bf16) (w : Vec Ideal S2048x4608 .fp8e4m3) (s : Vec Ideal S16x36 .f32) : Vec Ideal S6144x4608 .bf16 :=
  fun j => ∑ k : Fin 2048, (Quant.code (groupOf x (j 0) (grp k)) (lane k) * Quant.scale (groupOf x (j 0) (grp k))) * weightAt s w (ix2 k (j 1))

theorem G3_eq (c : Dev nD) : Value.G3 m c = productOf (xs m c) (ws m c) (ss m c) := by
  funext j
  have h0 : (j 0).val < 6144 := (j 0).isLt
  have h1 : (j 1).val < 4608 := (j 1).isLt
  have hp : Value.pt3Of j = (j 0).val / 512 := by show 1 * ((j 0).val / 512 - 0) + 1 * ((j 1).val / 4608 - 0) = _; omega
  have hN : Value.pt3Of j < cfg0.N := lt_of_lt_of_eq (by rw [hp]; omega) N_0.symm
  unfold Value.G3
  rw [dif_pos hN, ← Value.outsAt0_sweep m c _ hN, state]
  have hc : Value.loc3Of j 1 = j 1 := Fin.ext (by show (j 1).val % 4608 = (j 1).val; omega)
  show productAt (scaledAt (iblk m c 1 ⟨Value.pt3Of j, hN⟩)) (weightAt (ss m c) (ws m c)) (Value.loc3Of j) = _
  unfold productAt productOf
  refine Finset.sum_congr rfl fun k _ => ?_
  have hg : group (iblk m c 1 ⟨Value.pt3Of j, hN⟩) (Value.loc3Of j 0) (grp k) = groupOf (xs m c) (j 0) (grp k) :=
    group_iblk m c _ _ _ _ (by show (j 0).val = Value.pt3Of j * 512 + (j 0).val % 512; rw [hp]; omega)
  exact congrArg₂ (· * ·) (congrArg₂ (· * ·) (congrArg (fun f => Quant.code f (lane k)) hg) (congrArg Quant.scale hg))
    (congrArg (fun n : Fin 4608 => weightAt (ss m c) (ws m c) (ix2 k n)) hc)

theorem G4_eq (c : Dev nD) : Value.G4 m c = codesOf (xs m c) := by
  funext j
  have h0 : (j 0).val < 6144 := (j 0).isLt
  have h1 : (j 1).val < 2048 := (j 1).isLt
  have hp : Value.pt4Of j = (j 0).val / 512 := by show 1 * ((j 0).val / 512 - 0) + 1 * ((j 1).val / 2048 - 0) = _; omega
  have hN : Value.pt4Of j < cfg0.N := lt_of_lt_of_eq (by rw [hp]; omega) N_0.symm
  unfold Value.G4
  rw [dif_pos hN, ← Value.outsAt0_sweep m c _ hN, state]
  have hc : Value.loc4Of j 1 = j 1 := Fin.ext (by show (j 1).val % 2048 = (j 1).val; omega)
  have hg : group (iblk m c 1 ⟨Value.pt4Of j, hN⟩) (Value.loc4Of j 0) (grp (Value.loc4Of j 1)) = groupOf (xs m c) (j 0) (grp (j 1)) :=
    (congrArg (fun d : Fin 2048 => group (iblk m c 1 ⟨Value.pt4Of j, hN⟩) (Value.loc4Of j 0) (grp d)) hc).trans
      (group_iblk m c _ _ _ _ (by show (j 0).val = Value.pt4Of j * 512 + (j 0).val % 512; rw [hp]; omega))
  exact congrArg₂ (fun f (d : Fin 2048) => Quant.code f (lane d)) hg hc

theorem G5_eq (c : Dev nD) : Value.G5 m c = scalesOf (xs m c) := by
  funext j
  have h0 : (j 0).val < 6144 := (j 0).isLt
  have h1 : (j 1).val < 16 := (j 1).isLt
  have hp : Value.pt5Of j = (j 0).val / 512 := by show 1 * ((j 0).val / 512 - 0) + 1 * ((j 1).val / 16 - 0) = _; omega
  have hN : Value.pt5Of j < cfg0.N := lt_of_lt_of_eq (by rw [hp]; omega) N_0.symm
  unfold Value.G5
  rw [dif_pos hN, ← Value.outsAt0_sweep m c _ hN, state]
  have hc : Value.loc5Of j 1 = j 1 := Fin.ext (by show (j 1).val % 16 = (j 1).val; omega)
  exact congrArg Quant.scale ((congrArg (fun g : Fin 16 => group (iblk m c 1 ⟨Value.pt5Of j, hN⟩) (Value.loc5Of j 0) g) hc).trans
    (group_iblk m c _ _ _ _ (by show (j 0).val = Value.pt5Of j * 512 + (j 0).val % 512; rw [hp]; omega)))

/-- The matrix that the launch reads is `x` reshaped. -/
theorem xs_eq (c : Dev nD) : xs m c = shapeCast S6144x2048 (m ((c : Thread nD τ).loc main_arg0)) shapeCasts_S4x1536x2048_S6144x2048 := rfl

end Cert.KernelIdeal.Block

end
-- ==== Proof.Plain.lean ====
/-
  Hand-written, untrusted. The reference's mathematics of one group of 128 columns, as plain functions of the group.
-/
module

public import proofs.«01_k».proof.Proof.Quant

@[expose] public section

noncomputable section

namespace Cert.Quant

open Idealize.ShloMosaic

/-- The powers of two that the reference compares with: `2^(k-126)`. -/
def pow2 (k : Fin 254) : EReal := Ideal.exp2 (((BitVec.ofNat 32 k.val - 126#32).toInt : ℝ) : EReal)

/-- How many of them are at most `t`. -/
def count (t : EReal) : BitVec 32 :=
  (Finset.univ : Finset (Fin 254)).fold IKind.add.op 0#32 fun k => if pow2 k ≤ t then 1#32 else 0#32

/-- The reference's exponent of a group: 0 where no power of two is small enough or the magnitude is infinite. -/
def plainExp (f : Fin 128 → EReal) : BitVec 32 :=
  if count (ratio f) - 126#32 = 4294967170#32 ∨ amax f = Ideal.ofBits .f32 0x7F800000#32 then 0#32 else count (ratio f) - 126#32

/-- The reference's scale of a group and its reciprocal. -/
def plainScale (f : Fin 128 → EReal) : EReal := Ideal.exp2 (((plainExp f).toInt : ℝ) : EReal)
def plainInv (f : Fin 128 → EReal) : EReal := Ideal.exp2 (Ideal.ofBits .f32 0x00000000#32 - (((plainExp f).toInt : ℝ) : EReal))

/-- The reference's code of entry `l` of a group. -/
def plainCode (f : Fin 128 → EReal) (l : Fin 128) : EReal := clip (f l * plainInv f)

end Cert.Quant

end
-- ==== Proof.Reference.lean ====
/-
  Hand-written, untrusted. What the reference's three result arrays hold, entry by entry.
-/
module

public import proofs.«01_k».proof.Proof.Plain
public import proofs.«01_k».proof.Proof.Gen.ReferenceIdeal.Value
public import Idealize.ShloMosaic.Lib.MatmulPlain
public import Idealize.ShloMosaic.Lib.ValueLayoutCasts

@[expose] public section

noncomputable section

namespace Cert.ReferenceIdeal.Block

open Idealize.ShloMosaic Idealize.ShloMosaic.TcCoe Idealize.ShloMosaic.ValueIdx Idealize.SL.Sem Cert.ReferenceIdeal Cert.ReferenceIdeal.Gen

/-- Group `g` of row `r`. -/
def groupOf (x : Vec Ideal S6144x2048 .bf16) (r : Fin 6144) (g : Fin 16) : Fin 128 → EReal :=
  fun l => x (ix2 r ⟨g.val * 128 + l.val, by omega⟩)

/-- The group a column lies in, and its place there. -/
def grp (d : Fin 2048) : Fin 16 := ⟨d.val / 128, by omega⟩
def lane (d : Fin 2048) : Fin 128 := ⟨d.val % 128, by omega⟩
/-- The block of 128 columns of the weights that a column lies in, and its place there. -/
def blk (n : Fin 4608) : Fin 36 := ⟨n.val / 128, by omega⟩
def off (n : Fin 4608) : Fin 128 := ⟨n.val % 128, by omega⟩

section Layout
variable {α : Type}

/-- Rows split into groups … -/
theorem split_apply (x : S6144x2048.Idx → α) (h) (r : Fin 6144) (g : Fin 16) (l : Fin 128) :
    shapeCast S6144x16x128 x h (ix3 r g l) = x (ix2 r ⟨g.val * 128 + l.val, by omega⟩) :=
  shapeCast_apply x h _ _ (by
    rw [Shape.rowMajor_val_two, Shape.rowMajor_val_three]
    show r.val * 2048 + (g.val * 128 + l.val) = (r.val * 16 + g.val) * 128 + l.val
    omega)

/-- … and joined again. -/
theorem join_apply (x : S6144x16x128.Idx → α) (h) (r : Fin 6144) (d : Fin 2048) :
    shapeCast S6144x2048 x h (ix2 r d) = x (ix3 r (grp d) (lane d)) :=
  shapeCast_apply x h _ _ (by
    rw [Shape.rowMajor_val_two, Shape.rowMajor_val_three]
    show (r.val * 16 + d.val / 128) * 128 + d.val % 128 = r.val * 2048 + d.val
    omega)

theorem column_apply (x : S6144x16.Idx → α) (h) (r : Fin 6144) (g : Fin 16) (z : Fin 1) :
    shapeCast S6144x16x1 x h (ix3 r g z) = x (ix2 r g) :=
  shapeCast_apply x h _ _ (by
    have hz : z.val = 0 := by omega
    rw [Shape.rowMajor_val_two, Shape.rowMajor_val_three]
    show r.val * 16 + g.val = (r.val * 16 + g.val) * 1 + z.val
    omega)

/-- The weights split into blocks … -/
theorem split4_apply (x : S2048x4608.Idx → α) (h) (b : Fin 16) (p : Fin 128) (e : Fin 36) (q : Fin 128) :
    shapeCast S16x128x36x128 x h (ix4 b p e q) = x (ix2 ⟨b.val * 128 + p.val, by omega⟩ ⟨e.val * 128 + q.val, by omega⟩) :=
  shapeCast_apply x h _ _ (by
    rw [Shape.rowMajor_val_two, Shape.rowMajor_val_four]
    show (b.val * 128 + p.val) * 4608 + (e.val * 128 + q.val) = ((b.val * 128 + p.val) * 36 + e.val) * 128 + q.val
    omega)

/-- … and joined again. -/
theorem join4_apply (x : S16x128x36x128.Idx → α) (h) (k : Fin 2048) (n : Fin 4608) :
    shapeCast S2048x4608 x h (ix2 k n) = x (ix4 (grp k) (lane k) (blk n) (off n)) :=
  shapeCast_apply x h _ _ (by
    rw [Shape.rowMajor_val_two, Shape.rowMajor_val_four]
    show ((k.val / 128 * 128 + k.val % 128) * 36 + n.val / 128) * 128 + n.val % 128 = k.val * 4608 + n.val
    omega)

theorem scales4_apply (x : S16x36.Idx → α) (h) (b : Fin 16) (y : Fin 1) (e : Fin 36) (z : Fin 1) :
    shapeCast S16x1x36x1 x h (ix4 b y e z) = x (ix2 b e) :=
  shapeCast_apply x h _ _ (by
    have hy : y.val = 0 := by omega
    have hz : z.val = 0 := by omega
    rw [Shape.rowMajor_val_two, Shape.rowMajor_val_four]
    show b.val * 36 + e.val = ((b.val * 1 + y.val) * 36 + e.val) * 1 + z.val
    omega)

end Layout

/-- The grouped `x`. -/
theorem grouped_apply (x : Vec Ideal S6144x2048 .bf16) (r : Fin 6144) (g : Fin 16) (l : Fin 128) :
    k0_pay2 x (ix3 r g l) = groupOf x r g l := by
  unfold k0_pay2
  show shapeCast S6144x16x128 (shapeCast S6144x2048 x _) _ (ix3 r g l) = _
  rw [split_apply, shapeCast_self]
  rfl

/-- The largest magnitudes. -/
theorem amax_apply (w : FVec Ideal S6144x16x128 .f32) (r : Fin 6144) (g : Fin 16) :
    (multiReduction .maximumf [2] S6144x16 (absf w) 0xFF800000#32 reduces_S6144x16x128_S6144x16 (.inl rfl) rfl : FVec Ideal S6144x16 .f32) (ix2 r g)
      = Quant.amax fun l => w (ix3 r g l) := by
  refine (Ideal.multiReduction_maximumf_single _ _ _ _ _ _).trans ?_
  unfold Quant.amax
  refine Finset.fold_congr (s := (Finset.univ : Finset (Fin 128))) fun l _ => ?_
  have e : reduces_S6144x16x128_S6144x16.lift (ix2 r g) l = ix3 r g l := by
    funext a; match a with | ⟨0, _⟩ => rfl | ⟨1, _⟩ => rfl | ⟨2, _⟩ => rfl
  show max (w _) (-(w _)) = _
  rw [e]

/-- The powers of two along the last axis. -/
def powV : FVec Ideal S6144x16x254 .f32 :=
  exp2 (sitofp .f32 (subi (iota .tc S6144x16x254 32 [2] iota_S6144x16x254_d2_w32) (broadcast S6144x16x254 126#32)))

theorem powV_apply (r : Fin 6144) (g : Fin 16) (k : Fin 254) : powV (ix3 r g k) = Quant.pow2 k := by
  unfold powV Quant.pow2
  show Ideal.exp2 (((BitVec.ofNat 32 (0 * _ + k.val) - 126#32).toInt : ℝ) : EReal) = _
  rw [Nat.zero_mul, Nat.zero_add]

/-- The comparisons as words. -/
theorem below_apply (p : FVec Ideal S6144x16x254 .f32) (t : FVec Ideal S6144x16 .f32) (r : Fin 6144) (g : Fin 16) (k : Fin 254) :
    extui 32 (cmpf .ole p (broadcastTo S6144x16x254 (shapeCast S6144x16x1 t shapeCasts_S6144x16_S6144x16x1) broadcasts_S6144x16x1_S6144x16x254)) natLt_1_32 (ix3 r g k)
      = if p (ix3 r g k) ≤ t (ix2 r g) then 1#32 else 0#32 := by
  have hb : broadcastTo S6144x16x254 (shapeCast S6144x16x1 t shapeCasts_S6144x16_S6144x16x1) broadcasts_S6144x16x1_S6144x16x254 (ix3 r g k) = t (ix2 r g) :=
    (broadcastTo_apply _ _ _ (ix3 r g 0) fun a => by
      match a with
      | ⟨0, _⟩ => rfl
      | ⟨1, _⟩ => rfl
      | ⟨2, _⟩ => rfl).trans (column_apply t _ r g 0)
  show (Ideal.cmp .ole (p (ix3 r g k)) (broadcastTo S6144x16x254 _ _ (ix3 r g k))).setWidth 32 = _
  rw [hb]
  unfold Ideal.cmp
  by_cases hk : p (ix3 r g k) ≤ t (ix2 r g) <;> simp [hk]

theorem rowSum_apply (w : IVec S6144x16x254 32) (hacc : 0#32 = IKind.add.neutral) (r : Fin 6144) (g : Fin 16) :
    multiReductionI .add [2] S6144x16 w 0#32 reduces_S6144x16x254_S6144x16 hacc (ix2 r g)
      = (Finset.univ : Finset (Fin 254)).fold IKind.add.op 0#32 fun k => w (ix3 r g k) := by
  refine (multiReductionI_eq_fold _ _ _ _ _ _).trans ((Shape.Reduces.fold_filter_drop_single _ _ _ _ _).trans ?_)
  have e : ∀ k : Fin 254, reduces_S6144x16x254_S6144x16.lift (ix2 r g) k = ix3 r g k := fun k => by
    funext a; match a with | ⟨0, _⟩ => rfl | ⟨1, _⟩ => rfl | ⟨2, _⟩ => rfl
  exact Finset.fold_congr (s := (Finset.univ : Finset (Fin 254))) fun k _ => congrArg w (e k)

/-- The counts. -/
def countV (t : FVec Ideal S6144x16 .f32) : IVec S6144x16 32 :=
  multiReductionI .add [2] S6144x16 (extui 32 (cmpf .ole powV (broadcastTo S6144x16x254 (shapeCast S6144x16x1 t shapeCasts_S6144x16_S6144x16x1)
    broadcasts_S6144x16x1_S6144x16x254)) natLt_1_32) 0#32 reduces_S6144x16x254_S6144x16 rfl

theorem countV_apply (t : FVec Ideal S6144x16 .f32) (r : Fin 6144) (g : Fin 16) : countV t (ix2 r g) = Quant.count (t (ix2 r g)) := by
  unfold countV
  refine (rowSum_apply _ _ r g).trans ?_
  unfold Quant.count
  refine Finset.fold_congr fun k _ => ?_
  rw [below_apply, powV_apply]

/-- The exponents from the magnitudes. -/
def expV (a : FVec Ideal S6144x16 .f32) (n : IVec S6144x16 32) : IVec S6144x16 32 :=
  select (ori (cmpi .eq (subi n (broadcast S6144x16 126#32)) (broadcast S6144x16 4294967170#32))
      (cmpf .oeq a (broadcast S6144x16 (Scalar.ofBits .f32 0x7F800000#32))))
    (broadcast S6144x16 0#32) (subi n (broadcast S6144x16 126#32))

theorem expV_apply (a : FVec Ideal S6144x16 .f32) (n : IVec S6144x16 32) (j : S6144x16.Idx) :
    expV a n j = if n j - 126#32 = 4294967170#32 ∨ a j = Ideal.ofBits .f32 0x7F800000#32 then 0#32 else n j - 126#32 := by
  show (if BitVec.ofBool (n j - 126#32 == 4294967170#32) ||| BitVec.ofBool (decide (a j = Ideal.ofBits .f32 0x7F800000#32)) = 1
    then 0#32 else n j - 126#32) = _
  generalize n j - 126#32 = e
  by_cases h1 : e = 4294967170#32
  · subst h1
    by_cases h2 : a j = Ideal.ofBits .f32 0x7F800000#32 <;> simp [h2]
  · have hb : (e == 4294967170#32) = false := beq_eq_false_iff_ne.mpr h1
    rw [hb]
    by_cases h2 : a j = Ideal.ofBits .f32 0x7F800000#32 <;> simp [h1, h2]

theorem exp_apply (x : Vec Ideal S6144x2048 .bf16) (r : Fin 6144) (g : Fin 16) : k0_pay3 x (ix2 r g) = Quant.plainExp (groupOf x r g) := by
  have ha := amax_apply (k0_pay2 x) r g
  rw [funext (grouped_apply x r g)] at ha
  unfold k0_pay3
  refine (expV_apply _ (countV _) (ix2 r g)).trans ?_
  have ht : ∀ a : FVec Ideal S6144x16 .f32, mulf a (broadcast S6144x16 (Scalar.ofBits .f32 0x3B124925#32)) (ix2 r g) = a (ix2 r g) * Ideal.ofBits .f32 0x3B124925#32 :=
    fun _ => rfl
  rw [countV_apply, ht, ha]
  rfl

theorem scale_apply (x : Vec Ideal S6144x2048 .bf16) (r : Fin 6144) (g : Fin 16) : k0_pay4 x (ix2 r g) = Quant.plainScale (groupOf x r g) := by
  unfold k0_pay4 Quant.plainScale
  rw [← exp_apply]
  rfl

/-- The codes from the grouped `x` and the exponents. -/
def codeV (v : FVec Ideal S6144x16x128 .f32) (e : IVec S6144x16 32) : FVec Ideal S6144x16x128 .fp8e4m3 :=
  truncf .fp8e4m3 (minimumf (broadcast S6144x16x128 (Scalar.ofBits .f32 0x43E00000#32)) (maximumf (broadcast S6144x16x128 (Scalar.ofBits .f32 0xC3E00000#32))
    (mulf v (broadcastTo S6144x16x128 (shapeCast S6144x16x1 (exp2 (subf (broadcast S6144x16 (Scalar.ofBits .f32 0x00000000#32)) (sitofp .f32 e)) : FVec Ideal S6144x16 .f32)
      shapeCasts_S6144x16_S6144x16x1) broadcasts_S6144x16x1_S6144x16x128)))) bitsLt_fp8e4m3_f32

theorem codeV_apply (v : FVec Ideal S6144x16x128 .f32) (e : IVec S6144x16 32) (r : Fin 6144) (g : Fin 16) (l : Fin 128) :
    codeV v e (ix3 r g l) = Quant.clip (v (ix3 r g l) * Ideal.exp2 (Ideal.ofBits .f32 0x00000000#32 - (((e (ix2 r g)).toInt : ℝ) : EReal))) := by
  have hb : ∀ w : FVec Ideal S6144x16 .f32, broadcastTo S6144x16x128 (shapeCast S6144x16x1 w shapeCasts_S6144x16_S6144x16x1) broadcasts_S6144x16x1_S6144x16x128 (ix3 r g l) = w (ix2 r g) :=
    fun w => (broadcastTo_apply _ _ _ (ix3 r g 0) fun a => by
      match a with
      | ⟨0, _⟩ => rfl
      | ⟨1, _⟩ => rfl
      | ⟨2, _⟩ => rfl).trans (column_apply w _ r g 0)
  show min _ (max _ (v (ix3 r g l) * broadcastTo S6144x16x128 _ _ (ix3 r g l))) = _
  rw [hb]
  rfl

theorem code_apply (x : Vec Ideal S6144x2048 .bf16) (r : Fin 6144) (g : Fin 16) (l : Fin 128) :
    k0_pay5 x (ix3 r g l) = Quant.plainCode (groupOf x r g) l := by
  unfold k0_pay5
  refine (codeV_apply (k0_pay2 x) (k0_pay3 x) r g l).trans ?_
  rw [exp_apply, grouped_apply]
  rfl

/-- The reference's results, entry by entry. -/
def codesOf (x : Vec Ideal S6144x2048 .bf16) : Vec Ideal S6144x2048 .fp8e4m3 :=
  fun j => Quant.plainCode (groupOf x (j 0) (grp (j 1))) (lane (j 1))
def scalesOf (x : Vec Ideal S6144x2048 .bf16) : Vec Ideal S6144x16 .f32 :=
  fun j => Quant.plainScale (groupOf x (j 0) (j 1))
def productOf (x : Vec Ideal S6144x2048 .bf16) (w : Vec Ideal S2048x4608 .fp8e4m3) (s : Vec Ideal S16x36 .f32) : Vec Ideal S6144x4608 .bf16 :=
  fun j => ∑ k : Fin 2048, (Quant.plainCode (groupOf x (j 0) (grp k)) (lane k) * Quant.plainScale (groupOf x (j 0) (grp k)))
    * (w (ix2 k (j 1)) * s (ix2 (grp k) (blk (j 1))))

theorem codes_eq (x : Vec Ideal S6144x2048 .bf16) : k0_pay6 x = codesOf x := by
  funext j
  obtain ⟨r, d, rfl⟩ : ∃ r d, j = ix2 r d := ⟨j 0, j 1, eq_ix2 j⟩
  unfold k0_pay6
  exact (join_apply (k0_pay5 x) _ r d).trans (code_apply x r (grp d) (lane d))

theorem scales_eq (x : Vec Ideal S6144x2048 .bf16) : k0_pay4 x = scalesOf x := by
  funext j
  obtain ⟨r, d, rfl⟩ : ∃ r d, j = ix2 r d := ⟨j 0, j 1, eq_ix2 j⟩
  exact scale_apply x r d

/-- The scaled codes and the scaled weights that the reference multiplies. -/
def scaledV (a : FVec Ideal S6144x16x128 .fp8e4m3) (s : FVec Ideal S6144x16 .f32) : FVec Ideal S6144x2048 .bf16 :=
  shapeCast S6144x2048 (mulf (extf .bf16 a bitsLt_fp8e4m3_bf16) (broadcastTo S6144x16x128 (shapeCast S6144x16x1 (truncf .bf16 s bitsLt_bf16_f32 : FVec Ideal S6144x16 .bf16)
    shapeCasts_S6144x16_S6144x16x1) broadcasts_S6144x16x1_S6144x16x128) : FVec Ideal S6144x16x128 .bf16) shapeCasts_S6144x16x128_S6144x2048

theorem scaledV_apply (a : FVec Ideal S6144x16x128 .fp8e4m3) (s : FVec Ideal S6144x16 .f32) (r : Fin 6144) (d : Fin 2048) :
    scaledV a s (ix2 r d) = a (ix3 r (grp d) (lane d)) * s (ix2 r (grp d)) := by
  have hb : ∀ w : FVec Ideal S6144x16 .bf16, broadcastTo S6144x16x128 (shapeCast S6144x16x1 w shapeCasts_S6144x16_S6144x16x1) broadcasts_S6144x16x1_S6144x16x128 (ix3 r (grp d) (lane d)) = w (ix2 r (grp d)) :=
    fun w => (broadcastTo_apply _ _ _ (ix3 r (grp d) 0) fun a => by
      match a with
      | ⟨0, _⟩ => rfl
      | ⟨1, _⟩ => rfl
      | ⟨2, _⟩ => rfl).trans (column_apply w _ r (grp d) 0)
  unfold scaledV
  rw [join_apply]
  show a _ * broadcastTo S6144x16x128 _ _ (ix3 r (grp d) (lane d)) = _
  rw [hb]
  rfl

def weightV (w : Vec Ideal S2048x4608 .fp8e4m3) (s : Vec Ideal S16x36 .f32) : FVec Ideal S2048x4608 .bf16 :=
  shapeCast S2048x4608 (mulf (shapeCast S16x128x36x128 (extf .bf16 w bitsLt_fp8e4m3_bf16 : FVec Ideal S2048x4608 .bf16) shapeCasts_S2048x4608_S16x128x36x128)
    (broadcastTo S16x128x36x128 (shapeCast S16x1x36x1 (truncf .bf16 s bitsLt_bf16_f32 : FVec Ideal S16x36 .bf16) shapeCasts_S16x36_S16x1x36x1)
      broadcasts_S16x1x36x1_S16x128x36x128) : FVec Ideal S16x128x36x128 .bf16) shapeCasts_S16x128x36x128_S2048x4608

theorem weightV_apply (w : Vec Ideal S2048x4608 .fp8e4m3) (s : Vec Ideal S16x36 .f32) (k : Fin 2048) (n : Fin 4608) :
    weightV w s (ix2 k n) = w (ix2 k n) * s (ix2 (grp k) (blk n)) := by
  have hb : ∀ u : FVec Ideal S16x36 .bf16, broadcastTo S16x128x36x128 (shapeCast S16x1x36x1 u shapeCasts_S16x36_S16x1x36x1) broadcasts_S16x1x36x1_S16x128x36x128
      (ix4 (grp k) (lane k) (blk n) (off n)) = u (ix2 (grp k) (blk n)) :=
    fun u => (broadcastTo_apply _ _ _ (ix4 (grp k) 0 (blk n) 0) fun a => by
      match a with
      | ⟨0, _⟩ => rfl
      | ⟨1, _⟩ => rfl
      | ⟨2, _⟩ => rfl
      | ⟨3, _⟩ => rfl).trans (scales4_apply u _ (grp k) 0 (blk n) 0)
  unfold weightV
  rw [join4_apply]
  show shapeCast S16x128x36x128 w _ (ix4 (grp k) (lane k) (blk n) (off n)) * broadcastTo S16x128x36x128 _ _ (ix4 (grp k) (lane k) (blk n) (off n)) = _
  rw [hb, split4_apply]
  refine congrArg₂ (· * ·) (congrArg w (funext fun a => Fin.ext ?_)) rfl
  match a with
  | ⟨0, _⟩ => show k.val / 128 * 128 + k.val % 128 = k.val; omega
  | ⟨1, _⟩ => show n.val / 128 * 128 + n.val % 128 = n.val; omega

theorem product_eq (x : Vec Ideal S6144x2048 .bf16) (w : Vec Ideal S2048x4608 .fp8e4m3) (s : Vec Ideal S16x36 .f32) :
    k0_pay1 (k0_pay4 x) (k0_pay5 x) w s = productOf x w s := by
  funext j
  obtain ⟨r, n, rfl⟩ : ∃ r n, j = ix2 r n := ⟨j 0, j 1, eq_ix2 j⟩
  unfold k0_pay1 productOf
  refine (Ideal.matmul_plain_apply (φ₁ := .bf16) (φ₂ := .bf16) none (scaledV (k0_pay5 x) (k0_pay4 x)) (weightV w s)
    (constant (F := Ideal) S6144x4608 .f32 0x00000000#32) r n).trans ?_
  show Ideal.ofBits .f32 0x00000000#32 + _ = _
  rw [Ideal.ofBits_zero_f32, zero_add]
  refine Finset.sum_congr rfl fun k _ => ?_
  rw [scaledV_apply, weightV_apply, code_apply, scale_apply]

end Cert.ReferenceIdeal.Block

end
-- ==== Proof.RefArray.lean ====
/-
  Hand-written, untrusted. The reference's three arrays after its run, as functions of its arguments.
-/
module

public import proofs.«01_k».proof.Proof.Reference
public import Idealize.ShloMosaic.Lib.Pipeline.Value
public import Idealize.ShloMosaic.Lib.Affine

@[expose] public section

noncomputable section

namespace Cert.ReferenceIdeal.Block

open Idealize.ShloMosaic Idealize.ShloMosaic.TcCoe Idealize.ShloMosaic.ValueIdx Idealize.SL.Sem Cert.ReferenceIdeal Cert.ReferenceIdeal.Gen

/-- The region has one grid point. -/
def t₀ : Fin cfg0.N := ⟨0, by decide⟩

section Blocks
variable (x0 : Vec Ideal S6144x2048 .bf16) (x1 : Vec Ideal S2048x4608 .fp8e4m3) (x2 : Vec Ideal S16x36 .f32)

theorem out3_eq : out0_3 x0 x1 x2 = productOf x0 x1 x2 := by
  have hz : (![0, 0] : Fin 2 → Nat) = fun _ => 0 := funext fun a => by fin_cases a <;> rfl
  unfold out0_3 k0_pay7
  rw [View.canon_unit_zero hz, View.ld_unit_zero hz, View.ld_unit_zero hz, View.ld_unit_zero hz]
  exact product_eq x0 x1 x2

theorem out4_eq : out0_4 x0 x1 x2 = codesOf x0 := by
  have hz : (![0, 0] : Fin 2 → Nat) = fun _ => 0 := funext fun a => by fin_cases a <;> rfl
  unfold out0_4
  rw [View.canon_unit_zero hz, View.ld_unit_zero hz]
  exact codes_eq x0

theorem out5_eq : out0_5 x0 x1 x2 = scalesOf x0 := by
  have hz : (![0, 0] : Fin 2 → Nat) = fun _ => 0 := funext fun a => by fin_cases a <;> rfl
  unfold out0_5 k0_pay7
  rw [View.canon_unit_zero hz, View.ld_unit_zero hz]
  exact scales_eq x0

end Blocks

section Arrays
variable (m : (ℓ : Loc nD τ sig) → Buf (Elt Ideal) ℓ) (c : Dev nD)

abbrev xs : Vec Ideal S6144x2048 .bf16 := V m c main_v0
abbrev ws : Vec Ideal S2048x4608 .fp8e4m3 := V m c main_arg1
abbrev ss : Vec Ideal S16x36 .f32 := V m c main_arg2

theorem iblk_0 : iblk m c 0 t₀ = xs m c := by
  have hz : (fun a => (win0_0.index t₀) a * main_v0.ty.shape.size a) = fun _ => 0 := funext fun a => by fin_cases a <;> decide
  have hr := fun f => Memref.read_access_unit_zero (Elt Ideal) main_v0 hz (fun a => by fin_cases a <;> decide) f
  unfold iblk
  rw [hr]

theorem iblk_1 : iblk m c 1 t₀ = ws m c := by
  have hz : (fun a => (win0_1.index t₀) a * main_arg1.ty.shape.size a) = fun _ => 0 := funext fun a => by fin_cases a <;> decide
  have hr := fun f => Memref.read_access_unit_zero (Elt Ideal) main_arg1 hz (fun a => by fin_cases a <;> decide) f
  unfold iblk
  rw [hr]

theorem iblk_2 : iblk m c 2 t₀ = ss m c := by
  have hz : (fun a => (win0_2.index t₀) a * main_arg2.ty.shape.size a) = fun _ => 0 := funext fun a => by fin_cases a <;> decide
  have hr := fun f => Memref.read_access_unit_zero (Elt Ideal) main_arg2 hz (fun a => by fin_cases a <;> decide) f
  unfold iblk
  rw [hr]

/-- An output window's array after the run is what its one point leaves. -/
theorem final_3 : (dats m 0 c).arrAt 3 cfg0.N = productOf (xs m c) (ws m c) (ss m c) := by
  have ho : ((cfg0.win 3).blk t₀).view.read (Elt Ideal) ((dats m 0 c).arrAt 3 cfg0.N) = (dats m 0 c).flushed 3 t₀ := by
    rw [show cfg0.N = (t₀ : Fin cfg0.N).val + 1 from rfl, (dats m 0 c).arrAt_succ 3 t₀]
    rw [show (cfg0.win 3).flush t₀ = true from by decide, if_pos rfl]
    exact View.read_write_univ _ _
  have hz : (fun a => (win0_3.index t₀) a * main_v1_0.ty.shape.size a) = fun _ => 0 := funext fun a => by fin_cases a <;> decide
  have hr := fun f => Memref.read_access_unit_zero (Elt Ideal) main_v1_0 hz (fun a => by fin_cases a <;> decide) f
  rw [hr] at ho
  rw [ho]
  show (cfg0.win 3).cut _ ((dats m 0 c).after 3 t₀) = _
  rw [after0_3, out3_eq, iblk_0, iblk_1, iblk_2]
  rfl

theorem final_4 : (dats m 0 c).arrAt 4 cfg0.N = codesOf (xs m c) := by
  have ho : ((cfg0.win 4).blk t₀).view.read (Elt Ideal) ((dats m 0 c).arrAt 4 cfg0.N) = (dats m 0 c).flushed 4 t₀ := by
    rw [show cfg0.N = (t₀ : Fin cfg0.N).val + 1 from rfl, (dats m 0 c).arrAt_succ 4 t₀]
    rw [show (cfg0.win 4).flush t₀ = true from by decide, if_pos rfl]
    exact View.read_write_univ _ _
  have hz : (fun a => (win0_4.index t₀) a * main_v1_1.ty.shape.size a) = fun _ => 0 := funext fun a => by fin_cases a <;> decide
  have hr := fun f => Memref.read_access_unit_zero (Elt Ideal) main_v1_1 hz (fun a => by fin_cases a <;> decide) f
  rw [hr] at ho
  rw [ho]
  show (cfg0.win 4).cut _ ((dats m 0 c).after 4 t₀) = _
  rw [after0_4, out4_eq, iblk_0]
  rfl

theorem final_5 : (dats m 0 c).arrAt 5 cfg0.N = scalesOf (xs m c) := by
  have ho : ((cfg0.win 5).blk t₀).view.read (Elt Ideal) ((dats m 0 c).arrAt 5 cfg0.N) = (dats m 0 c).flushed 5 t₀ := by
    rw [show cfg0.N = (t₀ : Fin cfg0.N).val + 1 from rfl, (dats m 0 c).arrAt_succ 5 t₀]
    rw [show (cfg0.win 5).flush t₀ = true from by decide, if_pos rfl]
    exact View.read_write_univ _ _
  have hz : (fun a => (win0_5.index t₀) a * main_v1_2.ty.shape.size a) = fun _ => 0 := funext fun a => by fin_cases a <;> decide
  have hr := fun f => Memref.read_access_unit_zero (Elt Ideal) main_v1_2 hz (fun a => by fin_cases a <;> decide) f
  rw [hr] at ho
  rw [ho]
  show (cfg0.win 5).cut _ ((dats m 0 c).after 5 t₀) = _
  rw [after0_5, out5_eq, iblk_0]
  rfl

theorem xs_eq : xs m c = shapeCast S6144x2048 (m ((c : Thread nD τ).loc main_arg0)) shapeCasts_S4x1536x2048_S6144x2048 := rfl
theorem ws_eq : ws m c = m ((c : Thread nD τ).loc main_arg1) := V_main_arg1 m c
theorem ss_eq : ss m c = m ((c : Thread nD τ).loc main_arg2) := V_main_arg2 m c

end Arrays

end Cert.ReferenceIdeal.Block

end
-- ==== Proof.Scale.lean ====
/-
  Hand-written, untrusted. The scale's bit words against powers of two: for a group of finite (or infinite) entries the
  kernel's scale, read off the exponent bits, is the reference's power of two, and so is its reciprocal.
-/
module

public import proofs.«01_k».proof.Proof.Plain
public import Idealize.ShloMosaic.Lib.WordSum

@[expose] public section

noncomputable section

namespace Cert.Quant

open Idealize.ShloMosaic

/-- The real `2^z` as a value. -/
def two (z : ℤ) : EReal := (((2 : ℝ) ^ z : ℝ) : EReal)

theorem two_le {a b : ℤ} (h : a ≤ b) : two a ≤ two b :=
  EReal.coe_le_coe_iff.mpr (zpow_le_zpow_right₀ (by norm_num) h)

theorem two_lt {a b : ℤ} (h : a < b) : two a < two b :=
  EReal.coe_lt_coe_iff.mpr (zpow_lt_zpow_right₀ (by norm_num) h)

theorem exp2_int (z : ℤ) : Ideal.exp2 (((z : ℝ)) : EReal) = two z := by
  rw [Ideal.exp2_coe]
  exact congrArg _ (Real.rpow_intCast 2 z)

/-! ### Words -/

theorem step_sign : ∀ k : Fin 256, (stepWord k).extractLsb' 31 1 = 0#1 := by decide +kernel
theorem step_exponent : ∀ k : Fin 256, ((stepWord k).extractLsb' 23 8).toNat = k.val := by decide +kernel
theorem step_fraction : ∀ k : Fin 256, ((stepWord k).extractLsb' 0 23).toNat = 0 := by decide +kernel
theorem step_toInt : ∀ k : Fin 256, (stepWord k).toInt = 8388608 * (k.val : ℤ) := by decide +kernel
theorem wordOf_inner : ∀ c : Fin 254, wordOf (stepWord ⟨c.val + 1, by omega⟩) = stepWord ⟨c.val + 2, by omega⟩ := by decide +kernel
theorem wordOf_first : wordOf (stepWord 0) = 1065353216#32 := by decide +kernel
theorem wordOf_last : wordOf (stepWord 255) = 1065353216#32 := by decide +kernel
theorem inv_inner : ∀ c : Fin 252, 2130706432#32 - stepWord ⟨c.val + 2, by omega⟩ = stepWord ⟨252 - c.val, by omega⟩ := by decide +kernel
theorem pow_toInt : ∀ k : Fin 254, (BitVec.ofNat 32 k.val - 126#32).toInt = (k.val : ℤ) - 126 := by decide +kernel

/-- A word `k · 2^23` with a normal exponent field is `2^(k-127)`. -/
theorem step_value (k : Fin 256) (h1 : 1 ≤ k.val) (h2 : k.val ≤ 254) : Ideal.ofBits .f32 (stepWord k) = two ((k.val : ℤ) - 127) := by
  show Ideal.ieee 8 23 (stepWord k) = _
  unfold Ideal.ieee
  dsimp only
  rw [step_sign, step_exponent, step_fraction, if_neg (by omega), if_neg (by omega)]
  unfold two
  refine congrArg _ ?_
  have e : (2 : ℝ) ^ (((k.val : ℤ)) - 127) = (2 : ℝ) ^ (23 : ℤ) * (2 : ℝ) ^ ((k.val : ℤ) - 127 - 23) := by
    rw [← zpow_add₀ (by norm_num)]
    congr 1
    ring
  rw [e]
  norm_num

/-- The word with the exponent field full is infinite. -/
theorem step_last : Ideal.ofBits .f32 (stepWord 255) = ⊤ := by
  show Ideal.ieee 8 23 (stepWord 255) = _
  unfold Ideal.ieee
  dsimp only
  rw [step_sign, step_exponent, step_fraction]
  simp

theorem ofBits_inf : Ideal.ofBits .f32 0x7F800000#32 = ⊤ := step_last

theorem pow2_eq (k : Fin 254) : pow2 k = two ((k.val : ℤ) - 126) := by
  unfold pow2
  rw [pow_toInt, exp2_int]

/-! ### How many powers of two are at most `t` -/

/-- A predicate that holds of all smaller numbers too holds, below `N`, exactly up to some `c`. -/
theorem threshold (P : ℕ → Prop) (hP : ∀ i j, i ≤ j → P j → P i) (N : ℕ) : ∃ c, c ≤ N ∧ ∀ j, j < N → (P j ↔ j < c) := by
  induction N with
  | zero => exact ⟨0, le_refl _, fun j h => absurd h (Nat.not_lt_zero _)⟩
  | succ N ih =>
    obtain ⟨c, hc, h⟩ := ih
    by_cases hN : P N
    · exact ⟨N + 1, le_refl _, fun j hj => ⟨fun _ => hj, fun _ => hP j N (by omega) hN⟩⟩
    · refine ⟨c, by omega, fun j hj => ?_⟩
      by_cases e : j = N
      · subst e
        exact ⟨fun p => absurd p hN, fun p => by omega⟩
      · exact h j (by omega)

/-- `c` powers of two from `2^(-126)` on are at most `t`. -/
def Below (t : EReal) (c : ℕ) : Prop := c ≤ 254 ∧ ∀ j : ℕ, j < 254 → (two ((j : ℤ) - 126) ≤ t ↔ j < c)

theorem exists_below (t : EReal) : ∃ c, Below t c :=
  threshold (fun j => two ((j : ℤ) - 126) ≤ t) (fun i j h p => le_trans (two_le (by omega)) p) 254

theorem count_eq {t : EReal} {c : ℕ} (h : Below t c) : count t = BitVec.ofNat 32 c := by
  have hs : count t = ∑ k : Fin 254, if k.val < c then 1#32 else 0#32 := by
    unfold count
    rw [Finset.sum_eq_fold]
    refine Finset.fold_congr fun k _ => ?_
    rw [pow2_eq]
    exact if_congr (h.2 k.val k.isLt) rfl rfl
  have hn : ∑ k : Fin 254, (if k.val < c then 1#32 else 0#32).toNat = c := by
    have e : ∀ k : Fin 254, (if k.val < c then 1#32 else 0#32).toNat = if k.val < c then 1 else 0 := fun k => by
      split <;> rfl
    rw [Finset.sum_congr rfl fun k _ => e k, Fin.sum_univ_eq_sum_range (fun k => if k < c then 1 else 0) 254, Finset.sum_boole]
    have hf : (Finset.range 254).filter (fun k => k < c) = Finset.range c := by
      ext k
      simp only [Finset.mem_filter, Finset.mem_range]
      have := h.1
      omega
    rw [hf, Finset.card_range]
    rfl
  apply BitVec.eq_of_toNat_eq
  have hc := h.1
  rw [hs, WordSum.toNat_sum _ _ (by rw [hn]; omega), hn, BitVec.toNat_ofNat, Nat.mod_eq_of_lt (by omega)]

/-- A fold by the signed maximum is the greatest word. -/
theorem maxsi_fold {N : ℕ} (f : Fin N → BitVec 32) (b v : BitVec 32) (hb : b.toInt ≤ v.toInt) (hle : ∀ k, (f k).toInt ≤ v.toInt)
    (k : Fin N) (hk : f k = v) : (Finset.univ : Finset (Fin N)).fold IKind.maxsi.op b f = v := by
  have hm : ∀ x y : BitVec 32, (IKind.maxsi.op x y).toInt = max x.toInt y.toInt := fun x y => by
    show (IntOp.maxsi x y).toInt = _
    unfold IntOp.maxsi
    simp only [BitVec.slt, decide_eq_true_eq]
    split <;> omega
  have hf : (Finset.univ : Finset (Fin N)).fold max b.toInt (fun k => (f k).toInt) = ((Finset.univ : Finset (Fin N)).fold IKind.maxsi.op b f).toInt :=
    Finset.fold_hom hm
  apply BitVec.eq_of_toInt_eq
  rw [← hf]
  refine le_antisymm (Finset.fold_max_le _ |>.mpr ⟨hb, fun k _ => hle k⟩) ?_
  exact (Finset.le_fold_max _).mpr (Or.inr ⟨k, Finset.mem_univ _, by rw [hk]⟩)

/-- The exponent word of a value that is not infinite. -/
theorem expWord_eq {t : EReal} {c : ℕ} (h : Below t c) (ht : t ≠ ⊤) : expWord t = stepWord ⟨c, by have := h.1; omega⟩ := by
  have hc := h.1
  have hk : ∀ k : Fin 256, 1 ≤ k.val → (Ideal.ofBits .f32 (stepWord k) ≤ t ↔ k.val ≤ c) := fun k h1 => by
    by_cases h2 : k.val ≤ 254
    · rw [step_value k h1 h2, show ((k.val : ℤ) - 127) = ((k.val - 1 : ℕ) : ℤ) - 126 by omega, h.2 _ (by omega)]
      omega
    · have e : k = 255 := Fin.ext (by show k.val = 255; omega)
      rw [e, step_last]
      exact ⟨fun p => absurd (top_le_iff.mp p) ht, fun p => absurd p (by show ¬ 255 ≤ c; omega)⟩
  unfold expWord
  refine maxsi_fold _ _ _ ?_ (fun k => ?_) ⟨c, by omega⟩ ?_
  · rw [step_toInt]
    have : (2147483648#32).toInt = -2147483648 := by decide
    rw [this]
    omega
  · by_cases h1 : 1 ≤ k.val
    · split
      · rename_i p
        have := (hk k h1).mp p
        rw [step_toInt, step_toInt]
        show _ ≤ 8388608 * (c : ℤ)
        omega
      · rw [step_toInt, BitVec.toInt_zero]
        omega
    · have e : k = 0 := Fin.ext (by show k.val = 0; omega)
      have z : stepWord 0 = 0#32 := rfl
      rw [e, z, ite_self, step_toInt, BitVec.toInt_zero]
      omega
  · by_cases h1 : 1 ≤ c
    · exact if_pos ((hk ⟨c, by omega⟩ h1).mpr (le_refl _))
    · have e : (⟨c, by omega⟩ : Fin 256) = 0 := Fin.ext (by show c = 0; omega)
      have z : stepWord 0 = 0#32 := rfl
      rw [e, z, ite_self]

/-- The exponent word of infinity. -/
theorem expWord_top : expWord ⊤ = stepWord 255 := by
  unfold expWord
  refine maxsi_fold _ _ _ (by decide) (fun k => ?_) 255 (if_pos le_top)
  rw [if_pos le_top, step_toInt, step_toInt]
  have := k.isLt
  show _ ≤ (8388608 * 255 : ℤ)
  omega

/-! ### The range of the entries -/

/-- A value that some bf16 word other than a NaN could hold, as far as its magnitude goes. -/
def InRange (x : EReal) : Prop := max x (-x) ≤ Ideal.ofBits .bf16 0x7F7F#16 ∨ max x (-x) = ⊤

theorem largest_le : Ideal.ofBits .bf16 0x7F7F#16 ≤ two 128 := by
  show Ideal.ieee 8 7 0x7F7F#16 ≤ _
  unfold Ideal.ieee two
  dsimp only
  rw [show (0x7F7F#16).extractLsb' (8 + 7) 1 = 0#1 by decide, show ((0x7F7F#16).extractLsb' 7 8).toNat = 254 by decide,
    show ((0x7F7F#16).extractLsb' 0 7).toNat = 127 by decide, if_neg (by decide), if_neg (by decide), EReal.coe_le_coe_iff]
  norm_num

/-- The constant 1/448, as a real. -/
theorem recip_eq : ∃ q : ℝ, Ideal.ofBits .f32 0x3B124925#32 = (q : EReal) ∧ 0 < q ∧ q ≤ 1 / 256 := by
  refine ⟨(2 ^ 23 + 1198373 : Nat) * (2 : ℝ) ^ (-32 : ℤ), ?_, by positivity, by norm_num⟩
  show Ideal.ieee 8 23 0x3B124925#32 = _
  unfold Ideal.ieee
  dsimp only
  rw [show (0x3B124925#32).extractLsb' (8 + 23) 1 = 0#1 by decide, show ((0x3B124925#32).extractLsb' 23 8).toNat = 118 by decide,
    show ((0x3B124925#32).extractLsb' 0 23).toNat = 1198373 by decide, if_neg (by decide), if_neg (by decide)]
  refine congrArg _ ?_
  norm_num

/-- The largest magnitude of a group of such entries is at most `2^128` or infinite. -/
theorem amax_range {f : Fin 128 → EReal} (h : ∀ l, InRange (f l)) : amax f ≤ two 128 ∨ amax f = ⊤ := by
  by_cases hi : ∃ l, max (f l) (-(f l)) = ⊤
  · obtain ⟨l, hl⟩ := hi
    refine Or.inr (top_le_iff.mp ?_)
    exact (Finset.le_fold_max _).mpr (Or.inr ⟨l, Finset.mem_univ _, hl.ge⟩)
  · refine Or.inl ((Finset.fold_max_le _).mpr ⟨?_, fun l _ => ?_⟩)
    · have e : Ideal.ofBits .f32 0xFF800000#32 = ⊥ := by
        show Ideal.ieee 8 23 0xFF800000#32 = _
        unfold Ideal.ieee
        dsimp only
        rw [show (0xFF800000#32).extractLsb' (8 + 23) 1 = 1#1 by decide, show ((0xFF800000#32).extractLsb' 23 8).toNat = 255 by decide,
          show ((0xFF800000#32).extractLsb' 0 23).toNat = 0 by decide]
        simp
      rw [e]
      exact bot_le
    · exact le_trans ((h l).resolve_right fun e => hi ⟨l, e⟩) largest_le

theorem amax_nonneg (f : Fin 128 → EReal) : 0 ≤ amax f := by
  refine (Finset.le_fold_max _).mpr (Or.inr ⟨0, Finset.mem_univ _, ?_⟩)
  rcases le_total 0 (f 0) with h | h
  · exact le_trans h (le_max_left _ _)
  · exact le_trans (EReal.neg_nonneg.mpr h) (le_max_right _ _)

/-- Over 448 it is below `2^126`, or infinite where it was. -/
theorem ratio_range {f : Fin 128 → EReal} (h : ∀ l, InRange (f l)) :
    (ratio f < two 126 ∧ amax f ≠ ⊤) ∨ (ratio f = ⊤ ∧ amax f = ⊤) := by
  obtain ⟨q, hq, q0, q1⟩ := recip_eq
  unfold ratio
  rw [hq]
  rcases amax_range h with ha | ha
  · refine Or.inl ⟨?_, fun e => ?_⟩
    · have h0 := amax_nonneg f
      generalize amax f = a at ha h0
      induction a with
      | bot => exact absurd h0 (by simp)
      | top => exact absurd (top_le_iff.mp ha) (EReal.coe_ne_top _)
      | coe r =>
        unfold two at ha ⊢
        rw [EReal.coe_le_coe_iff] at ha
        rw [← EReal.coe_mul, EReal.coe_lt_coe_iff]
        have h0' : 0 ≤ r := EReal.coe_nonneg.mp h0
        calc r * q ≤ (2 : ℝ) ^ (128 : ℤ) * (1 / 256) := mul_le_mul ha q1 q0.le (by positivity)
          _ < (2 : ℝ) ^ (126 : ℤ) := by norm_num
    · rw [e] at ha
      exact absurd (top_le_iff.mp ha) (EReal.coe_ne_top _)
  · refine Or.inr ⟨?_, ha⟩
    rw [ha]
    exact EReal.top_mul_coe_of_pos q0

/-! ### Scale and reciprocal -/

theorem one_eq : Ideal.ofBits .f32 1065353216#32 = two 0 := step_value 127 (by decide) (by decide)

/-- Kernel and reference take the same scale and the same reciprocal. -/
theorem scale_eq {f : Fin 128 → EReal} (h : ∀ l, InRange (f l)) : scale f = plainScale f ∧ inv f = plainInv f := by
  have hz : Ideal.ofBits .f32 0x00000000#32 = 0 := Ideal.ofBits_zero_f32
  have key : ∃ z : ℤ, (plainExp f).toInt = z ∧ scale f = two z ∧ inv f = two (-z) := by
    have hone : 2130706432#32 - 1065353216#32 = 1065353216#32 := by decide
    rcases ratio_range h with ⟨hr, ha⟩ | ⟨hr, ha⟩
    · obtain ⟨c, hc⟩ := exists_below (ratio f)
      have htop : ratio f ≠ ⊤ := fun e => by
        rw [e] at hr
        exact absurd hr (not_lt.mpr le_top)
      have hc' : c ≤ 252 := by
        by_contra hn
        exact absurd ((hc.2 252 (by omega)).mpr (by omega)) (not_le.mpr hr)
      have hw : scaleWord f = wordOf (stepWord ⟨c, by omega⟩) := by
        unfold scaleWord
        rw [expWord_eq hc htop]
      have he : plainExp f = if BitVec.ofNat 32 c - 126#32 = 4294967170#32 then 0#32 else BitVec.ofNat 32 c - 126#32 := by
        unfold plainExp
        rw [count_eq hc, ofBits_inf]
        exact if_congr (or_iff_left ha) rfl rfl
      rcases Nat.eq_zero_or_pos c with h0 | h0
      · subst h0
        have hw0 : scaleWord f = 1065353216#32 := hw.trans wordOf_first
        refine ⟨0, ?_, ?_, ?_⟩
        · rw [he]
          decide
        · unfold scale
          rw [hw0, one_eq]
        · unfold inv
          rw [hw0, hone, one_eq, neg_zero]
      · obtain ⟨d, rfl⟩ : ∃ d, c = d + 1 := ⟨c - 1, by omega⟩
        have hw' : scaleWord f = stepWord ⟨d + 2, by omega⟩ := hw.trans (wordOf_inner ⟨d, by omega⟩)
        refine ⟨(d : ℤ) - 125, ?_, ?_, ?_⟩
        · have hp := pow_toInt ⟨d + 1, by omega⟩
          have hne : BitVec.ofNat 32 (d + 1) - 126#32 ≠ 4294967170#32 := fun e => by
            rw [show BitVec.ofNat 32 (⟨d + 1, by omega⟩ : Fin 254).val - 126#32 = 4294967170#32 from e] at hp
            rw [show (4294967170#32).toInt = -126 by decide] at hp
            have : ((⟨d + 1, by omega⟩ : Fin 254).val : ℤ) = d + 1 := by push_cast; rfl
            omega
          rw [he, if_neg hne]
          refine hp.trans ?_
          push_cast
          ring
        · unfold scale
          rw [hw', step_value _ (by show 1 ≤ d + 2; omega) (by show d + 2 ≤ 254; omega)]
          refine congrArg two ?_
          push_cast
          ring
        · unfold inv
          rw [hw', inv_inner ⟨d, by omega⟩, step_value _ (by show 1 ≤ 252 - d; omega) (by show 252 - d ≤ 254; omega)]
          refine congrArg two ?_
          show ((252 - d : ℕ) : ℤ) - 127 = _
          omega
    · have hw : scaleWord f = 1065353216#32 := by
        unfold scaleWord
        rw [hr, expWord_top, wordOf_last]
      refine ⟨0, ?_, ?_, ?_⟩
      · unfold plainExp
        rw [if_pos (Or.inr (ha.trans ofBits_inf.symm))]
        rfl
      · unfold scale
        rw [hw, one_eq]
      · unfold inv
        rw [hw, hone, one_eq, neg_zero]
  obtain ⟨z, h1, h2, h3⟩ := key
  constructor
  · unfold plainScale
    rw [h1, h2, exp2_int]
  · unfold plainInv
    rw [h1, h3, hz, zero_sub, ← EReal.coe_neg, ← Int.cast_neg, exp2_int]

end Cert.Quant

end
-- ==== Proof.Equation.lean ====
/-
  Hand-written, untrusted. Kernel and reference compute the same three arrays from entries in the range.
-/
module

public import proofs.«01_k».proof.Proof.Array
public import proofs.«01_k».proof.Proof.RefArray
public import proofs.«01_k».proof.Proof.Scale

@[expose] public section

noncomputable section

namespace Cert.Equation

open Idealize.ShloMosaic Idealize.ShloMosaic.ValueIdx

variable {x : Vec Ideal Cert.KernelIdeal.S6144x2048 .bf16} (h : ∀ j, Quant.InRange (x j))
include h

theorem scale_eq (r : Fin 6144) (g : Fin 16) :
    Quant.scale (KernelIdeal.Block.groupOf x r g) = Quant.plainScale (ReferenceIdeal.Block.groupOf x r g) :=
  (Quant.scale_eq (f := ReferenceIdeal.Block.groupOf x r g) fun _ => h _).1

theorem code_eq (r : Fin 6144) (g : Fin 16) (l : Fin 128) :
    Quant.code (KernelIdeal.Block.groupOf x r g) l = Quant.plainCode (ReferenceIdeal.Block.groupOf x r g) l := by
  unfold Quant.code Quant.plainCode
  rw [← (Quant.scale_eq (f := ReferenceIdeal.Block.groupOf x r g) fun _ => h _).2]
  rfl

theorem scales_eq : KernelIdeal.Block.scalesOf x = ReferenceIdeal.Block.scalesOf x :=
  funext fun j => scale_eq h (j 0) (j 1)

theorem codes_eq : KernelIdeal.Block.codesOf x = ReferenceIdeal.Block.codesOf x :=
  funext fun j => code_eq h (j 0) (ReferenceIdeal.Block.grp (j 1)) (ReferenceIdeal.Block.lane (j 1))

theorem product_eq (w : Vec Ideal Cert.KernelIdeal.S2048x4608 .fp8e4m3) (s : Vec Ideal Cert.KernelIdeal.S16x36 .f32) :
    KernelIdeal.Block.productOf x w s = ReferenceIdeal.Block.productOf x w s :=
  funext fun j => Finset.sum_congr rfl fun k _ =>
    congrArg₂ (· * ·) (congrArg₂ (· * ·) (code_eq h (j 0) (ReferenceIdeal.Block.grp k) (ReferenceIdeal.Block.lane k)) (scale_eq h (j 0) (ReferenceIdeal.Block.grp k))) rfl

end Cert.Equation

end
-- ==== Proof.lean ====
/-
  Hand-written, untrusted. The claims, assembled.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Frame
public import proofs.«01_k».proof.Proof.Gen.ReferenceIdeal.Value
public import proofs.«01_k».proof.Proof.Equation
public import Idealize.ShloMosaic.Adequacy
public import Idealize.ShloMosaic.Init

@[expose] public section

noncomputable section

namespace Cert.Proof

open Idealize.ShloMosaic Idealize.SL.Sem

theorem preFacts : Cert.Pre_in_bf16_range.Facts := ⟨by decide⟩

theorem infinity_bf16 : Ideal.ofBits .bf16 0x7F80#16 = ⊤ := by
  show Ideal.ieee 8 7 0x7F80#16 = _
  unfold Ideal.ieee
  dsimp only
  rw [show (0x7F80#16).extractLsb' (8 + 7) 1 = 0#1 by decide, show ((0x7F80#16).extractLsb' 7 8).toNat = 255 by decide,
    show ((0x7F80#16).extractLsb' 0 7).toNat = 0 by decide]
  simp

/-- What the precondition says of an entry. -/
theorem entry_inRange [Cert.Pre_in_bf16_range.Facts] (x : FVec Ideal Cert.Pre_in_bf16_range.S4x1536x2048 .bf16) (w) (s)
    (h : Cert.Pre_in_bf16_range.fn (F := Ideal) x w s = fun _ => 1#1) (i : Cert.Pre_in_bf16_range.S4x1536x2048.Idx) : Quant.InRange (x i) := by
  have hi : BitVec.ofBool (decide (max (x i) (-(x i)) ≤ Ideal.ofBits .bf16 0x7F7F#16))
      ||| BitVec.ofBool (decide (max (x i) (-(x i)) = Ideal.ofBits .bf16 0x7F80#16)) = 1#1 := congrFun h i
  rw [infinity_bf16] at hi
  unfold Quant.InRange
  by_cases h1 : max (x i) (-(x i)) ≤ Ideal.ofBits .bf16 0x7F7F#16
  · exact Or.inl h1
  · refine Or.inr ?_
    by_contra h2
    rw [decide_eq_false h1, decide_eq_false h2] at hi
    simp at hi

theorem algebraic : Cert.algebraic_KernelIdeal_ReferenceIdeal_pre_in_bf16_range (hKernelIdeal := Cert.KernelIdeal.Gen.facts)
    (hReferenceIdeal := Cert.ReferenceIdeal.Gen.facts) (hPre_in_bf16_range := preFacts) := by
  intro m g m' g' hpre hargs
  have hx : ∀ c, Cert.ReferenceIdeal.Block.xs m' c = Cert.KernelIdeal.Block.xs m c := fun c => by
    rw [Cert.ReferenceIdeal.Block.xs_eq, Cert.KernelIdeal.Block.xs_eq, (hargs c).1]
  have hw : ∀ c, Cert.ReferenceIdeal.Block.ws m' c = Cert.KernelIdeal.Block.ws m c := fun c =>
    (Cert.ReferenceIdeal.Block.ws_eq m' c).trans ((hargs c).2.1.trans (Cert.KernelIdeal.Gen.V_main_arg1 m c).symm)
  have hs : ∀ c, Cert.ReferenceIdeal.Block.ss m' c = Cert.KernelIdeal.Block.ss m c := fun c =>
    (Cert.ReferenceIdeal.Block.ss_eq m' c).trans ((hargs c).2.2.trans (Cert.KernelIdeal.Gen.V_main_arg2 m c).symm)
  have hr : ∀ c j, Quant.InRange (Cert.KernelIdeal.Block.xs m c j) := fun c j =>
    @entry_inRange preFacts _ _ _ (hpre c) _
  refine ⟨fun c => Cert.KernelIdeal.Value.G3 m c, fun c => Cert.KernelIdeal.Value.G4 m c, fun c => Cert.KernelIdeal.Value.G5 m c,
    Cert.KernelIdeal.Value.run m g, ?_⟩
  refine (θ_run Cert.ReferenceIdeal.defs _ _).mono (fun r h c => ?_) (Cert.ReferenceIdeal.Value.run_blocks m' g')
  obtain ⟨h3, h4, h5, ha⟩ := h c
  refine ⟨h3.trans ?_, h4.trans ?_, h5.trans ?_, ha⟩
  · rw [Cert.ReferenceIdeal.Block.final_3, hx, hw, hs]
    exact (Cert.Equation.product_eq (hr c) _ _).symm.trans (Cert.KernelIdeal.Block.G3_eq m c).symm
  · rw [Cert.ReferenceIdeal.Block.final_4, hx]
    exact (Cert.Equation.codes_eq (hr c)).symm.trans (Cert.KernelIdeal.Block.G4_eq m c).symm
  · rw [Cert.ReferenceIdeal.Block.final_5, hx]
    exact (Cert.Equation.scales_eq (hr c)).symm.trans (Cert.KernelIdeal.Block.G5_eq m c).symm

theorem claim : Cert.Claim :=
  ⟨Cert.Kernel.Gen.facts, Cert.KernelIdeal.Gen.facts, Cert.ReferenceIdeal.Gen.facts, preFacts,
    fun m ρ _ => Cert.Kernel.Gen.frame m ρ, fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ, trivial, algebraic⟩

end Cert.Proof

end
